-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x768 : Shape := ⟨2, ![8192, 768]⟩
abbrev S16384x768 : Shape := ⟨2, ![16384, 768]⟩
abbrev S1024x768 : Shape := ⟨2, ![1024, 768]⟩
abbrev S4x512x768 : Shape := ⟨3, ![4, 512, 768]⟩
abbrev S4 : Shape := ⟨1, ![4]⟩
abbrev S1 : Shape := ⟨1, ![1]⟩
abbrev S_ : Shape := ⟨0, ![]⟩
abbrev S1x512x768 : Shape := ⟨3, ![1, 512, 768]⟩
abbrev S512x768 : Shape := ⟨2, ![512, 768]⟩

abbrev nBuf : Table → Nat
  | .hbm => 6
  | .local .tc .vmem => 6
  | .shared => 1
  | _ => 0

abbrev bufTy : (tb : Table) → Fin (nBuf tb) → BufTy
  | .hbm, ⟨0, _⟩ => ⟨S8192x768, .f32⟩
  | .hbm, ⟨1, _⟩ => ⟨S8192x768, .f32⟩
  | .hbm, ⟨2, _⟩ => ⟨S16384x768, .f32⟩
  | .hbm, ⟨3, _⟩ => ⟨S16384x768, .f32⟩
  | .hbm, ⟨4, _⟩ => ⟨S16384x768, .f32⟩
  | .hbm, ⟨5, _⟩ => ⟨S16384x768, .f32⟩
  | .local .tc .vmem, ⟨0, _⟩ => ⟨S1024x768, .f32⟩
  | .local .tc .vmem, ⟨1, _⟩ => ⟨S1024x768, .f32⟩
  | .local .tc .vmem, ⟨2, _⟩ => ⟨S1024x768, .f32⟩
  | .local .tc .vmem, ⟨3, _⟩ => ⟨S1024x768, .f32⟩
  | .local .tc .vmem, ⟨4, _⟩ => ⟨S1024x768, .f32⟩
  | .local .tc .vmem, ⟨5, _⟩ => ⟨S1024x768, .f32⟩
  | .shared, ⟨0, _⟩ => ⟨S4x512x768, .f32⟩
  | _, _ => ⟨S8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg0_scs : Ref sig .scScalar := ⟨.hbm, 0, rfl⟩
abbrev main_arg2_scs : Ref sig .scScalar := ⟨.hbm, 2, rfl⟩
abbrev main_v1_scs : Ref sig .scScalar := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scScalar := ⟨.shared, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.maxsi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_off1 (c0_i32_2 : BitVec 32) : Fin 1 → Nat :=
  let c4_i32 : BitVec 32 := 4#32
  let v7 : BitVec 32 := Scalar.remsi c0_i32_2 c4_i32
  ![v7.toNat]
def k1_off1_at (r : Fin 6) : BitVec 32 :=
  if r.val < 3 then
    if r.val < 1 then
      0#32
    else
      if r.val < 2 then
        1#32
      else
        12#32
  else
    if r.val < 4 then
      13#32
    else
      if r.val < 5 then
        14#32
      else
        15#32
def k1_off2 (c0_i32_2 : BitVec 32) : Fin 3 → Nat :=
  let c4_i32 : BitVec 32 := 4#32
  let v7 : BitVec 32 := Scalar.remsi c0_i32_2 c4_i32
  let c0_i32_4 : BitVec 32 := 0#32
  let c0_i32_5 : BitVec 32 := 0#32
  ![v7.toNat, 0, 0]
def k1_off2_at (r : Fin 6) : BitVec 32 :=
  if r.val < 3 then
    if r.val < 1 then
      0#32
    else
      if r.val < 2 then
        1#32
      else
        12#32
  else
    if r.val < 4 then
      13#32
    else
      if r.val < 5 then
        14#32
      else
        15#32
def k1_off3 (i : grid1.Coords) (c0_i32_3 : BitVec 32) : Fin 2 → Nat :=
  let arg0 : BitVec 32 := BitVec.ofNat 32 (i 0).val
  let c8192_i32 : BitVec 32 := 8192#32
  let v0 : BitVec 32 := Scalar.muli arg0 c8192_i32
  let v8 : BitVec 32 := Scalar.addi v0 c0_i32_3
  let c0_i32_6 : BitVec 32 := 0#32
  ![v8.toNat, 0]
@[reducible] def k1_t1_loop : Scf.Loop 32 :=
  let c0_i32_13 : BitVec 32 := 0#32
  let c16_i32 : BitVec 32 := 16#32
  let v21 : BitVec 32 := Scalar.addi c0_i32_13 c16_i32
  let c1_i32_14 : BitVec 32 := 1#32
  ⟨c0_i32_13, v21, c1_i32_14⟩
def k1_off4 (k1_t1 : Fin k1_t1_loop.trips) : Fin 1 → Nat :=
  let c0_i32_13 : BitVec 32 := 0#32
  let c1_i32_14 : BitVec 32 := 1#32
  let arg7 : BitVec 32 := Scf.iv c0_i32_13 c1_i32_14 k1_t1
  let c4_i32_32 : BitVec 32 := 4#32
  let v50 : BitVec 32 := Scalar.remsi arg7 c4_i32_32
  ![v50.toNat]
def k1_off5 (k1_t1 : Fin k1_t1_loop.trips) : Fin 3 → Nat :=
  let c0_i32_13 : BitVec 32 := 0#32
  let c1_i32_14 : BitVec 32 := 1#32
  let arg7 : BitVec 32 := Scf.iv c0_i32_13 c1_i32_14 k1_t1
  let c4_i32_32 : BitVec 32 := 4#32
  let v50 : BitVec 32 := Scalar.remsi arg7 c4_i32_32
  let c0_i32_34 : BitVec 32 := 0#32
  let c0_i32_35 : BitVec 32 := 0#32
  ![v50.toNat, 0, 0]
def k1_off6 (i : grid1.Coords) (k1_t1 : Fin k1_t1_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t1
  let c512_i32_33 : BitVec 32 := 512#32
  let v51 : BitVec 32 := Scalar.muli arg7 c512_i32_33
  let v52 : BitVec 32 := Scalar.addi v0 v51
  let c0_i32_36 : BitVec 32 := 0#32
  ![v52.toNat, 0]
def k1_off7 (i : grid1.Coords) (k1_t1 : Fin k1_t1_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t1
  let c512_i32_38 : BitVec 32 := 512#32
  let v59 : BitVec 32 := Scalar.muli arg7 c512_i32_38
  let v60 : BitVec 32 := Scalar.addi v0 v59
  let c0_i32_39 : BitVec 32 := 0#32
  ![v60.toNat, 0]
def k1_cond2 (k1_t1 : Fin k1_t1_loop.trips) : BitVec 1 :=
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c16_i32_42 : BitVec 32 := 16#32
  let v67 : BitVec 1 := Scalar.cmpi .slt v66 c16_i32_42
  let v68 : BitVec 32 := Scalar.extui v67
  let c0_i32_43 : BitVec 32 := 0#32
  let v69 : BitVec 1 := Scalar.cmpi .ne v68 c0_i32_43
  v69

def k1_cond3 (k1_t1 : Fin k1_t1_loop.trips) : BitVec 1 :=
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c4_i32_44 : BitVec 32 := 4#32
  let v70 : BitVec 1 := Scalar.cmpi .sge v66 c4_i32_44
  let v71 : BitVec 32 := Scalar.extui v70
  let c0_i32_45 : BitVec 32 := 0#32
  let v72 : BitVec 1 := Scalar.cmpi .ne v71 c0_i32_45
  v72

def k1_off8 (k1_t1 : Fin k1_t1_loop.trips) : Fin 1 → Nat :=
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c4_i32_51 : BitVec 32 := 4#32
  let v81 : BitVec 32 := Scalar.subi v66 c4_i32_51
  let c4_i32_52 : BitVec 32 := 4#32
  let v82 : BitVec 32 := Scalar.remsi v81 c4_i32_52
  ![v82.toNat]
def k1_off9 (i : grid1.Coords) (k1_t1 : Fin k1_t1_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c4_i32_51 : BitVec 32 := 4#32
  let v81 : BitVec 32 := Scalar.subi v66 c4_i32_51
  let c512_i32_53 : BitVec 32 := 512#32
  let v83 : BitVec 32 := Scalar.muli v81 c512_i32_53
  let v84 : BitVec 32 := Scalar.addi v0 v83
  let c0_i32_54 : BitVec 32 := 0#32
  ![v84.toNat, 0]
def k1_off10 (k1_t1 : Fin k1_t1_loop.trips) : Fin 3 → Nat :=
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c4_i32_51 : BitVec 32 := 4#32
  let v81 : BitVec 32 := Scalar.subi v66 c4_i32_51
  let c4_i32_52 : BitVec 32 := 4#32
  let v82 : BitVec 32 := Scalar.remsi v81 c4_i32_52
  let c0_i32_55 : BitVec 32 := 0#32
  let c0_i32_56 : BitVec 32 := 0#32
  ![v82.toNat, 0, 0]
def k1_off11 (k1_t1 : Fin k1_t1_loop.trips) : Fin 1 → Nat :=
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c4_i32_46 : BitVec 32 := 4#32
  let v73 : BitVec 32 := Scalar.remsi v66 c4_i32_46
  ![v73.toNat]
def k1_off12 (k1_t1 : Fin k1_t1_loop.trips) : Fin 3 → Nat :=
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c4_i32_46 : BitVec 32 := 4#32
  let v73 : BitVec 32 := Scalar.remsi v66 c4_i32_46
  let c0_i32_48 : BitVec 32 := 0#32
  let c0_i32_49 : BitVec 32 := 0#32
  ![v73.toNat, 0, 0]
def k1_off13 (i : grid1.Coords) (k1_t1 : Fin k1_t1_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t1
  let c2_i32 : BitVec 32 := 2#32
  let v66 : BitVec 32 := Scalar.addi arg7 c2_i32
  let c512_i32_47 : BitVec 32 := 512#32
  let v74 : BitVec 32 := Scalar.muli v66 c512_i32_47
  let v75 : BitVec 32 := Scalar.addi v0 v74
  let c0_i32_50 : BitVec 32 := 0#32
  ![v75.toNat, 0]
def k1_off14 (i : grid1.Coords) (c6144_i32 : BitVec 32) : Fin 2 → Nat :=
  let arg0 : BitVec 32 := BitVec.ofNat 32 (i 0).val
  let c8192_i32 : BitVec 32 := 8192#32
  let v0 : BitVec 32 := Scalar.muli arg0 c8192_i32
  let v23 : BitVec 32 := Scalar.addi v0 c6144_i32
  let c0_i32_17 : BitVec 32 := 0#32
  ![v23.toNat, 0]
def k1_cond4 (i : grid1.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k1_off15 (c0_i32_2 : BitVec 32) : Fin 1 → Nat :=
  let c4_i32 : BitVec 32 := 4#32
  let v7 : BitVec 32 := Scalar.remsi c0_i32_2 c4_i32
  ![v7.toNat]
def k1_off15_at (r : Fin 6) : BitVec 32 :=
  if r.val < 3 then
    if r.val < 1 then
      0#32
    else
      if r.val < 2 then
        1#32
      else
        12#32
  else
    if r.val < 4 then
      13#32
    else
      if r.val < 5 then
        14#32
      else
        15#32
def k1_off16 (c0_i32_2 : BitVec 32) : Fin 3 → Nat :=
  let c4_i32 : BitVec 32 := 4#32
  let v7 : BitVec 32 := Scalar.remsi c0_i32_2 c4_i32
  let c0_i32_4 : BitVec 32 := 0#32
  let c0_i32_5 : BitVec 32 := 0#32
  ![v7.toNat, 0, 0]
def k1_off16_at (r : Fin 6) : BitVec 32 :=
  if r.val < 3 then
    if r.val < 1 then
      0#32
    else
      if r.val < 2 then
        1#32
      else
        12#32
  else
    if r.val < 4 then
      13#32
    else
      if r.val < 5 then
        14#32
      else
        15#32
def k1_off17 (i : grid1.Coords) (c0_i32_3 : BitVec 32) : Fin 2 → Nat :=
  let arg0 : BitVec 32 := BitVec.ofNat 32 (i 0).val
  let c8192_i32 : BitVec 32 := 8192#32
  let v0 : BitVec 32 := Scalar.muli arg0 c8192_i32
  let v8 : BitVec 32 := Scalar.addi v0 c0_i32_3
  let c0_i32_6 : BitVec 32 := 0#32
  ![v8.toNat, 0]
def k1_off17_at (r : Fin 6) : BitVec 32 :=
  if r.val < 3 then
    if r.val < 1 then
      0#32
    else
      if r.val < 2 then
        512#32
      else
        6144#32
  else
    if r.val < 4 then
      6656#32
    else
      if r.val < 5 then
        7168#32
      else
        7680#32
@[reducible] def k1_t2_loop : Scf.Loop 32 :=
  let c0_i32_13 : BitVec 32 := 0#32
  let c16_i32 : BitVec 32 := 16#32
  let v21 : BitVec 32 := Scalar.addi c0_i32_13 c16_i32
  let c1_i32_14 : BitVec 32 := 1#32
  ⟨c0_i32_13, v21, c1_i32_14⟩
def k1_off18 (k1_t2 : Fin k1_t2_loop.trips) : Fin 1 → Nat :=
  let c0_i32_13 : BitVec 32 := 0#32
  let c1_i32_14 : BitVec 32 := 1#32
  let arg7 : BitVec 32 := Scf.iv c0_i32_13 c1_i32_14 k1_t2
  let c4_i32_32 : BitVec 32 := 4#32
  let v50 : BitVec 32 := Scalar.remsi arg7 c4_i32_32
  ![v50.toNat]
def k1_off19 (k1_t2 : Fin k1_t2_loop.trips) : Fin 3 → Nat :=
  let c0_i32_13 : BitVec 32 := 0#32
  let c1_i32_14 : BitVec 32 := 1#32
  let arg7 : BitVec 32 := Scf.iv c0_i32_13 c1_i32_14 k1_t2
  let c4_i32_32 : BitVec 32 := 4#32
  let v50 : BitVec 32 := Scalar.remsi arg7 c4_i32_32
  let c0_i32_34 : BitVec 32 := 0#32
  let c0_i32_35 : BitVec 32 := 0#32
  ![v50.toNat, 0, 0]
def k1_off20 (i : grid1.Coords) (k1_t2 : Fin k1_t2_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t2
  let c512_i32_33 : BitVec 32 := 512#32
  let v51 : BitVec 32 := Scalar.muli arg7 c512_i32_33
  let v52 : BitVec 32 := Scalar.addi v0 v51
  let c0_i32_36 : BitVec 32 := 0#32
  ![v52.toNat, 0]
def k1_cond5 (k1_t2 : Fin k1_t2_loop.trips) : BitVec 1 :=
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c16_i32_42 : BitVec 32 := 16#32
  let v67 : BitVec 1 := Scalar.cmpi .slt v66 c16_i32_42
  let v68 : BitVec 32 := Scalar.extui v67
  let c0_i32_43 : BitVec 32 := 0#32
  let v69 : BitVec 1 := Scalar.cmpi .ne v68 c0_i32_43
  v69

def k1_cond6 (k1_t2 : Fin k1_t2_loop.trips) : BitVec 1 :=
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c4_i32_44 : BitVec 32 := 4#32
  let v70 : BitVec 1 := Scalar.cmpi .sge v66 c4_i32_44
  let v71 : BitVec 32 := Scalar.extui v70
  let c0_i32_45 : BitVec 32 := 0#32
  let v72 : BitVec 1 := Scalar.cmpi .ne v71 c0_i32_45
  v72

def k1_off21 (k1_t2 : Fin k1_t2_loop.trips) : Fin 1 → Nat :=
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c4_i32_51 : BitVec 32 := 4#32
  let v81 : BitVec 32 := Scalar.subi v66 c4_i32_51
  let c4_i32_52 : BitVec 32 := 4#32
  let v82 : BitVec 32 := Scalar.remsi v81 c4_i32_52
  ![v82.toNat]
def k1_off22 (i : grid1.Coords) (k1_t2 : Fin k1_t2_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c4_i32_51 : BitVec 32 := 4#32
  let v81 : BitVec 32 := Scalar.subi v66 c4_i32_51
  let c512_i32_53 : BitVec 32 := 512#32
  let v83 : BitVec 32 := Scalar.muli v81 c512_i32_53
  let v84 : BitVec 32 := Scalar.addi v0 v83
  let c0_i32_54 : BitVec 32 := 0#32
  ![v84.toNat, 0]
def k1_off23 (k1_t2 : Fin k1_t2_loop.trips) : Fin 3 → Nat :=
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c4_i32_51 : BitVec 32 := 4#32
  let v81 : BitVec 32 := Scalar.subi v66 c4_i32_51
  let c4_i32_52 : BitVec 32 := 4#32
  let v82 : BitVec 32 := Scalar.remsi v81 c4_i32_52
  let c0_i32_55 : BitVec 32 := 0#32
  let c0_i32_56 : BitVec 32 := 0#32
  ![v82.toNat, 0, 0]
def k1_off24 (k1_t2 : Fin k1_t2_loop.trips) : Fin 1 → Nat :=
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c4_i32_46 : BitVec 32 := 4#32
  let v73 : BitVec 32 := Scalar.remsi v66 c4_i32_46
  ![v73.toNat]
def k1_off25 (k1_t2 : Fin k1_t2_loop.trips) : Fin 3 → Nat :=
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c4_i32_46 : BitVec 32 := 4#32
  let v73 : BitVec 32 := Scalar.remsi v66 c4_i32_46
  let c0_i32_48 : BitVec 32 := 0#32
  let c0_i32_49 : BitVec 32 := 0#32
  ![v73.toNat, 0, 0]
def k1_off26 (i : grid1.Coords) (k1_t2 : Fin k1_t2_loop.trips) : Fin 2 → Nat :=
  let arg0 : BitVec 32 := BitVec.ofNat 32 (i 0).val
  let c8192_i32 : BitVec 32 := 8192#32
  let v0 : BitVec 32 := Scalar.muli arg0 c8192_i32
  let c0_i32_13 : BitVec 32 := 0#32
  let c1_i32_14 : BitVec 32 := 1#32
  let arg7 : BitVec 32 := Scf.iv c0_i32_13 c1_i32_14 k1_t2
  let c2_i32 : BitVec 32 := 2#32
  let v66 : BitVec 32 := Scalar.addi arg7 c2_i32
  let c512_i32_47 : BitVec 32 := 512#32
  let v74 : BitVec 32 := Scalar.muli v66 c512_i32_47
  let v75 : BitVec 32 := Scalar.addi v0 v74
  let c0_i32_50 : BitVec 32 := 0#32
  ![v75.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S8192x768 : Shape := ⟨2, ![8192, 768]⟩
abbrev S16384x768 : Shape := ⟨2, ![16384, 768]⟩
abbrev S8192 : Shape := ⟨1, ![8192]⟩
abbrev S_ : Shape := ⟨0, ![]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S16384x768, .f32⟩
  | .hbm, ⟨3, _⟩ => ⟨S16384x768, .f32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S_, .i1⟩
  | .hbm, ⟨21, _⟩ => ⟨S8192, .i1⟩
  | .hbm, ⟨22, _⟩ => ⟨S8192, .i1⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S16384x768, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S16384x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.Setup.lean ====
/-
The two calls of @main as the launch theorem sees them, and the resources the proof is stated over: the configuration of
the SparseCore call, the pipeline of the TensorCore call below it, and the algebra that holds the call's handshakes, the
pipeline's rounds and the local transfers' counters side by side.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import Idealize.ShloMosaic.Lib.Ring
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's handshake semaphores are apart and unscoped where they must be, and no table is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's rounds, and the two beside the transfers' counters. -/
abbrev UH : Type := URounds (GSem nD τ sig) ℕ
abbrev UP : Type := URounds (GSem nD τ sig) Unit
abbrev UU : Type := UH × (UP × Counters)

/-- The handshakes' rounds are the left factor, -/
abbrev EH : Emb UH (MT nD τ sig (HIx 1) (Elt F) ℕ UU ℕ) := embL
/-- and the pipeline's are the left of the right one. -/
abbrev EP : Emb UP (MT nD τ sig (HIx 1) (Elt F) ℕ UU ℕ) := (Emb.inl : Emb UP (UP × Counters)).trans embR

/-! ## The arrays -/

abbrev visLoc (d : Dev nD) : Loc nD τ sig := (SparseCore.T d).loc main_arg0
abbrev lagLoc (d : Dev nD) : Loc nD τ sig := (SparseCore.T d).loc main_arg1
abbrev visqLoc (d : Dev nD) : Loc nD τ sig := (SparseCore.T d).loc main_arg2
abbrev lagqLoc (d : Dev nD) : Loc nD τ sig := (SparseCore.T d).loc main_arg3
abbrev lagoLoc (d : Dev nD) : Loc nD τ sig := (SparseCore.T d).loc main_v0
abbrev visoLoc (d : Dev nD) : Loc nD τ sig := (SparseCore.T d).loc main_v1

end Cert.Proof.Queue

end
-- ==== Proof.Stream.lean ====
/-
The SparseCore kernel's stream of one half of the result, stated once for both cores: sixteen chunks through a ring of
four banks, two loads ahead of the stores. The chunks, the banks and the cells are parameters.
-/
module

public import proofs.«01_k».proof.Proof.Setup

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type}

local notation "𝕄" => MT nD τ sig (HIx 1) (Elt F) ℕ UU ℕ

/-- What a stream moves and through what: four banks, a load cell and a store cell for each, sixteen source chunks and
    sixteen destination chunks. -/
structure Ends where
  bank : Fin 4 → Memref sig .scScalar .shared S512x768 .f32
  ic : Fin 4 → DmaSem sig
  oc : Fin 4 → DmaSem sig
  src : Fin 16 → Memref sig .scScalar .hbm S512x768 .f32
  out : Fin 16 → Memref sig .scScalar .hbm S512x768 .f32

section Prog

variable (cc : Fin τ.nSC) (E : Ends)

/-- A program of SparseCore `cc`'s sequencer. -/
abbrev SP (F : FTy → Type) (cc : Fin τ.nSC) := Prog (TpuEff nD τ sig (Elt F) Λ₀ (.scScalar cc)) PUnit

/-- Chunk `b`'s load into bank `b % 4` started; -/
def startIn (b : ℕ) : SP F cc :=
  Prog.lift (.enqueueDma (E.src (Ring.sl 16 b)) (.here (E.bank (Ring.sl 4 b))) (.dma (E.ic (Ring.sl 4 b)))
    (View.wordExact_bits rfl) (View.wordExact_bits rfl) ⟨Or.inl rfl, trivial⟩)
/-- waited for; -/
def waitIn (b : ℕ) : SP F cc :=
  Prog.lift (.waitDma2 (E.ic (Ring.sl 4 b)) (E.src (Ring.sl 16 b)) (E.bank (Ring.sl 4 b)) (View.wordExact_bits rfl) (View.wordExact_bits rfl))
/-- its store out of bank `b % 4` started; -/
def startOut (b : ℕ) : SP F cc :=
  Prog.lift (.enqueueDma (E.bank (Ring.sl 4 b)) (.here (E.out (Ring.sl 16 b))) (.dma (E.oc (Ring.sl 4 b)))
    (View.wordExact_bits rfl) (View.wordExact_bits rfl) ⟨Or.inl rfl, trivial⟩)
/-- and waited for. -/
def waitOut (b : ℕ) : SP F cc :=
  Prog.lift (.waitDma2 (E.oc (Ring.sl 4 b)) (E.bank (Ring.sl 4 b)) (E.out (Ring.sl 16 b)) (View.wordExact_bits rfl) (View.wordExact_bits rfl))

/-- Trip `k`: chunk `k` awaited and its store started; then, while there is a chunk `k + 2`, the store of chunk `k - 2`
    (which used the same bank) awaited and chunk `k + 2`'s load started. -/
def trip (k : ℕ) : SP F cc :=
  waitIn cc E k >>= fun _ => startOut cc E k >>= fun _ =>
    if k + 2 < 16 then (if 2 ≤ k then waitOut cc E (k - 2) else pure ⟨⟩) >>= fun _ => startIn cc E (k + 2) >>= fun _ => pure ⟨⟩
    else pure ⟨⟩

/-- The stream: two loads started, the sixteen trips, the last four stores awaited. -/
def stream (hok : k1_t1_loop.OK) : SP F cc := do
  startIn cc E 0
  startIn cc E 1
  Scf.Loop.for k1_t1_loop hok ⟨⟩ (fun k _ => trip cc E k.val)
  waitOut cc E 12
  waitOut cc E 13
  waitOut cc E 14
  waitOut cc E 15
  pure ⟨⟩

end Prog

section Run

variable (d : Dev nD) (cc : Fin τ.nSC) (E : Ends)
variable (q : PosShare TreeShare)
variable (fs : (b : Fin 16) → Buf (Elt F) ((E.src b).view.loc (S d cc)))
variable (fo fO : (b : Fin 16) → Buf (Elt F) ((E.out b).view.loc (S d cc)))

abbrev EC : UEmb Counters 𝕄 := countersEmb

/-- Source chunk `b`; destination chunk `b` as it was, and as it is to be; bank `s` at anything. -/
def srcP (b : Fin 16) : sProp 𝕄 := (E.src b).view.loc (S d cc) ↦[(E.src b).view.set]{q} fs b
def outP (f : (b : Fin 16) → Buf (Elt F) ((E.out b).view.loc (S d cc))) (b : Fin 16) : sProp 𝕄 :=
  (E.out b).view.loc (S d cc) ↦[(E.out b).view.set]{fullShare} f b
def bankP (s : Fin 4) : sProp 𝕄 := iprop(∃ g, (E.bank s).view.loc (S d cc) ↦[(E.bank s).view.set]{fullShare} g)
/-- Bank `s` holding chunk `b` of the source. -/
def fullP (s : Fin 4) (b : Fin 16) : sProp 𝕄 :=
  iprop(∃ g, ⌜(E.bank s).view.read (Elt F) g = (E.src b).view.read (Elt F) (fs b)⌝
    ∗ (E.bank s).view.loc (S d cc) ↦[(E.bank s).view.set]{fullShare} g)
/-- Bank `s`'s load cell and its store cell at zero. -/
def icZ (s : Fin 4) : sProp 𝕄 := semVal (S d cc, SemLoc.dma (E.ic s)) 0
def ocZ (s : Fin 4) : sProp 𝕄 := semVal (S d cc, SemLoc.dma (E.oc s)) 0

/-- Bank `s` loading chunk `b`; bank `s` storing chunk `b`; bank `s` idle. -/
def loading (s : Fin 4) (b : Fin 16) : sProp 𝕄 :=
  iprop(Flight EC (S d cc) (.dma (E.ic s)) (none : HIx 1) ((E.bank s).view.amount (.dma (E.ic s))) iprop(fullP d cc E fs s b ∗ srcP d cc E q fs b) ∗ ocZ d cc E s)
def storing (s : Fin 4) (b : Fin 16) : sProp 𝕄 :=
  iprop(Flight EC (S d cc) (.dma (E.oc s)) (none : HIx 1) ((E.out b).view.amount (.dma (E.oc s))) iprop(outP d cc E fO b ∗ bankP d cc E s) ∗ icZ d cc E s)
def idle (s : Fin 4) : sProp 𝕄 := iprop(bankP d cc E s ∗ icZ d cc E s ∗ ocZ d cc E s)

/-- What the bank that chunk `m` will use holds once chunk `m - 4` is on its way out (nothing, if there is none), -/
def behind (m : ℕ) : sProp 𝕄 :=
  if 4 ≤ m then storing (F := F) d cc E fO (Ring.sl 4 m) (Ring.sl 16 (m - 4)) else idle d cc E (Ring.sl 4 m)
/-- and once chunk `m`'s load is started, if there is one. -/
def ahead (m : ℕ) : sProp 𝕄 :=
  if m < 16 then loading d cc E q fs (Ring.sl 4 m) (Ring.sl 16 m) else behind d cc E fO m

/-- The state before trip `k`: the banks of chunks `k` and `k + 1` loading, those of chunks `k - 2` and `k - 1` storing;
    every other source chunk at home; the destination's chunks from `k` on as they were, the first ones, their stores
    awaited, as they are to be. -/
def inv (O : CellTallies nD τ sig (HIx 1)) (k : ℕ) (_ : PUnit) : sProp 𝕄 :=
  iprop(MayWaits (S d cc) (none : HIx 1) O
    ∗ (ahead d cc E q fs fO k ∗ ahead d cc E q fs fO (k + 1) ∗ behind d cc E fO (k + 2) ∗ behind d cc E fO (k + 3))
    ∗ (bigSep (Ring.rangeSet 16 0 k) (srcP d cc E q fs) ∗ bigSep (Ring.rangeSet 16 (k + 2) 16) (srcP d cc E q fs))
    ∗ (bigSep (Ring.rangeSet 16 k 16) (outP d cc E fo) ∗ bigSep (Ring.rangeSet 16 0 (min (k - 2) 12)) (outP d cc E fO))
    ∗ ∃ W, owes (S d cc) O W)

variable [FloatOps F]

/-- A chunk's write agrees, on the chunk, with any contents that read there what was written. -/
theorem write_agree {κ : Kind} {sp : Space} {s : Shape} {e : EltTy} (M : Memref sig κ sp s e)
    (g h : M.view.ty.Contents (Elt F)) (w : s.Idx → Elt F e) (hw : M.view.read (Elt F) h = w) :
    ∀ i ∈ M.view.set, M.view.write (Elt F) g w Finset.univ i = h i := by
  intro i hi
  obtain ⟨x, -, rfl⟩ := Finset.mem_map.mp hi
  subst hw
  rw [View.write_emb_of_mem _ _ (Finset.mem_univ x), View.read_apply, cast_cast, cast_eq]

theorem run_startIn (b : ℕ) {Q : PUnit → sProp 𝕄} {k : PUnit → SP F cc} :
    iprop(srcP d cc E q fs (Ring.sl 16 b) ∗ idle d cc E (Ring.sl 4 b))
      ⊢ iprop((loading d cc E q fs (Ring.sl 4 b) (Ring.sl 16 b)
          -∗ wp frame (wpE (defs₀ (F := F)) 𝒱₀ (S d cc) none) Set.univ (k ⟨⟩) Q)
        -∗ wp frame (wpE (defs₀ (F := F)) 𝒱₀ (S d cc) none) Set.univ (startIn cc E b >>= k) Q) := by
  unfold startIn idle bankP icZ loading
  simp only [Prog.lift, Prog.bind_op, Prog.bind_ret]
  iintro ⟨Hs, ⟨%g, Hb⟩, Hi, Ho⟩ Hk
  iapply (Transfers.wp_dmaLocal EC 𝒱₀ (S d cc) none (none : HIx 1) _ rfl (View.amount_pos _ _ (show 0 < S512x768.numel by decide)) (Finset.Subset.refl _)) $$ [Hs Hb Hi]
  · isplitl [Hs]; · unfold srcP; iexact Hs
    isplitl [Hb]; · iexact Hb
    iexact Hi
  iintro Hf
  iapply Hk
  isplitr [Ho]
  · iapply (Transfers.Flight_mono EC (S d cc) ?_) $$ Hf
    iintro ⟨Hb, Hs⟩
    isplitl [Hb]
    · unfold fullP
      iexists _
      isplitr; swap; · iexact Hb
      ipureintro
      exact View.read_write_univ _ _
    · unfold srcP; iexact Hs
  · iexact Ho

theorem run_waitIn (b : ℕ) {O : CellTallies nD τ sig (HIx 1)} {W : Waits sig (HIx 1)} {Q : PUnit → sProp 𝕄} {k : PUnit → SP F cc} :
    iprop(loading d cc E q fs (Ring.sl 4 b) (Ring.sl 16 b) ∗ owes (S d cc) O W ∗ MayWaits (S d cc) (none : HIx 1) O)
      ⊢ iprop((∀ W', fullP d cc E fs (Ring.sl 4 b) (Ring.sl 16 b) ∗ srcP d cc E q fs (Ring.sl 16 b) ∗ icZ d cc E (Ring.sl 4 b)
            ∗ ocZ d cc E (Ring.sl 4 b) ∗ owes (S d cc) O W'
          -∗ wp frame (wpE (defs₀ (F := F)) 𝒱₀ (S d cc) none) Set.univ (k ⟨⟩) Q)
        -∗ wp frame (wpE (defs₀ (F := F)) 𝒱₀ (S d cc) none) Set.univ (waitIn cc E b >>= k) Q) := by
  unfold waitIn loading icZ
  simp only [Prog.lift, Prog.bind_op, Prog.bind_ret]
  iintro ⟨⟨Hf, Ho⟩, HO, Hmw⟩ Hk
  ihave Hm := (Transfers.MayWaits.elim (SemLoc.dma (E.ic (Ring.sl 4 b)))) $$ Hmw
  iapply (Transfers.wp_waitLocalO EC 𝒱₀ (S d cc) none (none : HIx 1) rfl) $$ [Hf HO Hm]
  · isplitl [Hf]; · iexact Hf
    isplitl [HO]; · iexact HO
    iexact Hm
  iintro ⟨⟨Hb, Hs⟩, Hi, HO⟩
  iapply Hk
  isplitl [Hb]; · iexact Hb
  isplitl [Hs]; · iexact Hs
  isplitl [Hi]; · iexact Hi
  isplitl [Ho]; · iexact Ho
  iexact HO

theorem run_startOut (hO : ∀ b, (E.out b).view.read (Elt F) (fO b) = (E.src b).view.read (Elt F) (fs b))
    (b : ℕ) {Q : PUnit → sProp 𝕄} {k : PUnit → SP F cc} :
    iprop(fullP d cc E fs (Ring.sl 4 b) (Ring.sl 16 b) ∗ outP d cc E fo (Ring.sl 16 b) ∗ icZ d cc E (Ring.sl 4 b) ∗ ocZ d cc E (Ring.sl 4 b))
      ⊢ iprop((storing d cc E fO (Ring.sl 4 b) (Ring.sl 16 b)
          -∗ wp frame (wpE (defs₀ (F := F)) 𝒱₀ (S d cc) none) Set.univ (k ⟨⟩) Q)
        -∗ wp frame (wpE (defs₀ (F := F)) 𝒱₀ (S d cc) none) Set.univ (startOut cc E b >>= k) Q) := by
  unfold startOut ocZ storing fullP
  simp only [Prog.lift, Prog.bind_op, Prog.bind_ret]
  iintro ⟨⟨%g, %hg, Hb⟩, Hd, Hi, Ho⟩ Hk
  iapply (Transfers.wp_dmaLocal EC 𝒱₀ (S d cc) none (none : HIx 1) _ rfl (View.amount_pos _ _ (show 0 < S512x768.numel by decide)) (Finset.Subset.refl _)) $$ [Hb Hd Ho]
  · isplitl [Hb]; · iexact Hb
    isplitl [Hd]; · unfold outP; iexact Hd
    iexact Ho
  iintro Hf
  iapply Hk
  isplitr [Hi]
  · iapply (Transfers.Flight_mono EC (S d cc) ?_) $$ Hf
    iintro ⟨Hd, Hb⟩
    isplitl [Hd]
    · unfold outP
      iapply (Entails.of_eq (pointsTo_congr (write_agree (E.out (Ring.sl 16 b)) _ (fO (Ring.sl 16 b)) _ ((hO _).trans hg.symm)))); iexact Hd
    · unfold bankP; iexists g; iexact Hb
  · iexact Hi

theorem run_waitOut (b : ℕ) {O : CellTallies nD τ sig (HIx 1)} {W : Waits sig (HIx 1)} {Q : PUnit → sProp 𝕄} {k : PUnit → SP F cc} :
    iprop(storing d cc E fO (Ring.sl 4 b) (Ring.sl 16 b) ∗ owes (S d cc) O W ∗ MayWaits (S d cc) (none : HIx 1) O)
      ⊢ iprop((∀ W', outP d cc E fO (Ring.sl 16 b) ∗ idle d cc E (Ring.sl 4 b) ∗ owes (S d cc) O W'
          -∗ wp frame (wpE (defs₀ (F := F)) 𝒱₀ (S d cc) none) Set.univ (k ⟨⟩) Q)
          -∗ wp frame (wpE (defs₀ (F := F)) 𝒱₀ (S d cc) none) Set.univ (waitOut cc E b >>= k) Q) := by
  unfold waitOut storing idle ocZ
  simp only [Prog.lift, Prog.bind_op, Prog.bind_ret]
  iintro ⟨⟨Hf, Hi⟩, HO, Hmw⟩ Hk
  ihave Hm := (Transfers.MayWaits.elim (SemLoc.dma (E.oc (Ring.sl 4 b)))) $$ Hmw
  iapply (Transfers.wp_waitLocalO EC 𝒱₀ (S d cc) none (none : HIx 1) rfl) $$ [Hf HO Hm]
  · isplitl [Hf]; · iexact Hf
    isplitl [HO]; · iexact HO
    iexact Hm
  iintro ⟨⟨Hd, Hb⟩, Ho, HO⟩
  iapply Hk
  isplitl [Hd]; · iexact Hd
  isplitl [Hb Hi Ho]
  · isplitl [Hb]; · iexact Hb
    isplitl [Hi]; · iexact Hi
    iexact Ho
  iexact HO

/-! ### The trips -/

omit [FloatOps F]

theorem sl16 {k : ℕ} (h : k < 16) : Ring.sl 16 k = ⟨k, h⟩ := Fin.ext (Ring.bk_val h)

/-- A run of chunks from `k` on is chunk `k` and the run from `k + 1`; a run up to `k + 1` is chunk `k` and the run up to `k`. -/
theorem run_head (Φ : Fin 16 → sProp 𝕄) {k : ℕ} (h : k < 16) :
    bigSep (Ring.rangeSet 16 k 16) Φ = iprop(Φ (Ring.sl 16 k) ∗ bigSep (Ring.rangeSet 16 (k + 1) 16) Φ) := by
  rw [Ring.bigSep_rangeSet_head h h, sl16 h]
theorem run_last (Φ : Fin 16 → sProp 𝕄) {k : ℕ} (h : k < 16) :
    bigSep (Ring.rangeSet 16 0 (k + 1)) Φ = iprop(Φ (Ring.sl 16 k) ∗ bigSep (Ring.rangeSet 16 0 k) Φ) := by
  rw [Ring.bigSep_rangeSet_last (Nat.succ_pos k) h, sl16 h]; rfl

theorem ahead_lt {k : ℕ} (h : k < 16) : ahead d cc E q fs fO k = loading d cc E q fs (Ring.sl 4 k) (Ring.sl 16 k) := by
  unfold ahead; rw [if_pos h]
theorem ahead_ge {k : ℕ} (h : 16 ≤ k) : ahead d cc E q fs fO k = behind d cc E fO k := by
  unfold ahead; rw [if_neg (Nat.not_lt.2 h)]
theorem behind_lt {k : ℕ} (h : k < 4) : (behind d cc E fO k : sProp 𝕄) = idle d cc E (Ring.sl 4 k) := by
  unfold behind; rw [if_neg (Nat.not_le.2 h)]
theorem behind_add (k : ℕ) : (behind d cc E fO (k + 4) : sProp 𝕄) = storing d cc E fO (Ring.sl 4 k) (Ring.sl 16 k) := by
  unfold behind; rw [if_pos (Nat.le_add_left _ _), Nat.add_sub_cancel, Ring.sl_add]

variable [FloatOps F]

/-- The trip's first two steps: chunk `k` awaited, the bank's turn from loading to storing. -/
theorem run_turn (hO : ∀ b, (E.out b).view.read (Elt F) (fO b) = (E.src b).view.read (Elt F) (fs b))
    (b : ℕ) {O : CellTallies nD τ sig (HIx 1)} {W : Waits sig (HIx 1)} {Q : PUnit → sProp 𝕄} {k : PUnit → SP F cc} :
    iprop(loading d cc E q fs (Ring.sl 4 b) (Ring.sl 16 b) ∗ outP d cc E fo (Ring.sl 16 b) ∗ owes (S d cc) O W ∗ MayWaits (S d cc) (none : HIx 1) O)
      ⊢ iprop((∀ W', srcP d cc E q fs (Ring.sl 16 b) ∗ storing d cc E fO (Ring.sl 4 b) (Ring.sl 16 b) ∗ owes (S d cc) O W'
          -∗ wp frame (wpE (defs₀ (F := F)) 𝒱₀ (S d cc) none) Set.univ (k ⟨⟩) Q)
          -∗ wp frame (wpE (defs₀ (F := F)) 𝒱₀ (S d cc) none) Set.univ (waitIn cc E b >>= fun _ => startOut cc E b >>= k) Q) := by
  iintro ⟨Hl, Ho, HO, Hmw⟩ Hk
  iapply (run_waitIn d cc E q fs b) $$ [Hl HO Hmw]
  · isplitl [Hl]; · iexact Hl
    isplitl [HO]; · iexact HO
    iexact Hmw
  iintro %W1 ⟨Hfull, Hsk, Hi, Hoc, HO⟩
  iapply (run_startOut d cc E fs fo fO hO b) $$ [Hfull Ho Hi Hoc]
  · isplitl [Hfull]; · iexact Hfull
    isplitl [Ho]; · iexact Ho
    isplitl [Hi]; · iexact Hi
    iexact Hoc
  iintro Hst
  iapply Hk
  isplitl [Hsk]; · iexact Hsk
  isplitl [Hst]; · iexact Hst
  iexact HO

/-- Trip `k` takes the state before it to the state before the next. -/
theorem run_trip (hO : ∀ b, (E.out b).view.read (Elt F) (fO b) = (E.src b).view.read (Elt F) (fs b))
    (O : CellTallies nD τ sig (HIx 1)) {k : ℕ} (hk : k < 16) (u : PUnit) :
    inv d cc E q fs fo fO O k u ⊢ wp frame (wpE (defs₀ (F := F)) 𝒱₀ (S d cc) none) Set.univ (trip cc E k) (inv d cc E q fs fo fO O (k + 1)) := by
  unfold inv trip
  rw [ahead_lt d cc E q fs fO hk, run_head _ hk, run_last _ hk, show k + 1 + 3 = k + 4 from rfl, behind_add, show k + 1 + 2 = k + 3 from rfl,
    show k + 1 + 1 = k + 2 from rfl]
  by_cases h2 : k + 2 < 16
  · rw [if_pos h2, run_head _ h2, ahead_lt d cc E q fs fO h2]
    by_cases h3 : 2 ≤ k
    · rw [if_pos h3]
      obtain ⟨j, rfl⟩ : ∃ j, k = j + 2 := ⟨k - 2, by omega⟩
      rw [show j + 2 + 2 = j + 4 from rfl, behind_add, show j + 2 - 2 = j from rfl, show j + 2 + 1 - 2 = j + 1 by omega, Nat.min_eq_left (show j ≤ 12 by omega),
        Nat.min_eq_left (show j + 1 ≤ 12 by omega), run_last (outP d cc E fO) (show j < 16 by omega)]
      iintro ⟨#Hmw, ⟨Hl, Ha, Hb, Hc⟩, ⟨Hs, Hs2, Hs'⟩, ⟨⟨Ho, Hos⟩, Hod⟩, %W, HO⟩
      iapply (run_turn d cc E q fs fo fO hO (j + 2)) $$ [Hl Ho HO]
      · isplitl [Hl]; · iexact Hl
        isplitl [Ho]; · iexact Ho
        isplitl [HO]; · iexact HO
        iexact Hmw
      iintro %W1 ⟨Hsk, Hst, HO⟩
      iapply (run_waitOut d cc E fO j) $$ [Hb HO]
      · isplitl [Hb]; · iexact Hb
        isplitl [HO]; · iexact HO
        iexact Hmw
      iintro %W2 ⟨Hok, Hid, HO⟩
      iapply (run_startIn d cc E q fs (j + 4)) $$ [Hs2 Hid]
      · isplitl [Hs2]; · iexact Hs2
        rw [Ring.sl_add]; iexact Hid
      iintro Hl
      rw [wp_pure]; imodintro
      isplitr; · iexact Hmw
      isplitl [Ha Hl Hc Hst]
      · isplitl [Ha]; · iexact Ha
        isplitl [Hl]; · iexact Hl
        isplitl [Hc]; · iexact Hc
        iexact Hst
      isplitl [Hs Hsk Hs']
      · isplitl [Hs Hsk]
        · isplitl [Hsk]; · iexact Hsk
          iexact Hs
        iexact Hs'
      isplitl [Hos Hok Hod]
      · isplitl [Hos]; · iexact Hos
        isplitl [Hok]; · iexact Hok
        iexact Hod
      iexists W2; iexact HO
    · rw [if_neg h3, behind_lt d cc E fO (show k + 2 < 4 by omega), pure_bind, Nat.min_eq_left (show k - 2 ≤ 12 by omega),
        Nat.min_eq_left (show k + 1 - 2 ≤ 12 by omega), show k + 1 - 2 = k - 2 by omega]
      iintro ⟨#Hmw, ⟨Hl, Ha, Hb, Hc⟩, ⟨Hs, Hs2, Hs'⟩, ⟨⟨Ho, Hos⟩, Hod⟩, %W, HO⟩
      iapply (run_turn d cc E q fs fo fO hO k) $$ [Hl Ho HO]
      · isplitl [Hl]; · iexact Hl
        isplitl [Ho]; · iexact Ho
        isplitl [HO]; · iexact HO
        iexact Hmw
      iintro %W1 ⟨Hsk, Hst, HO⟩
      iapply (run_startIn d cc E q fs (k + 2)) $$ [Hs2 Hb]
      · isplitl [Hs2]; · iexact Hs2
        iexact Hb
      iintro Hl
      rw [wp_pure]; imodintro
      isplitr; · iexact Hmw
      isplitl [Ha Hl Hc Hst]
      · isplitl [Ha]; · iexact Ha
        isplitl [Hl]; · iexact Hl
        isplitl [Hc]; · iexact Hc
        iexact Hst
      isplitl [Hs Hsk Hs']
      · isplitl [Hs Hsk]
        · isplitl [Hsk]; · iexact Hsk
          iexact Hs
        iexact Hs'
      isplitl [Hos Hod]
      · isplitl [Hos]; · iexact Hos
        iexact Hod
      iexists W1; iexact HO
  · rw [if_neg h2, ahead_ge d cc E q fs fO (show 16 ≤ k + 2 by omega), Nat.min_eq_right (show 12 ≤ k - 2 by omega), Nat.min_eq_right (show 12 ≤ k + 1 - 2 by omega),
      Ring.rangeSet_empty (show 16 ≤ k + 2 by omega), Ring.rangeSet_empty (show 16 ≤ k + 3 by omega)]
    iintro ⟨#Hmw, ⟨Hl, Ha, Hb, Hc⟩, ⟨Hs, Hs'⟩, ⟨⟨Ho, Hos⟩, Hod⟩, %W, HO⟩
    iapply (run_turn d cc E q fs fo fO hO k) $$ [Hl Ho HO]
    · isplitl [Hl]; · iexact Hl
      isplitl [Ho]; · iexact Ho
      isplitl [HO]; · iexact HO
      iexact Hmw
    iintro %W1 ⟨Hsk, Hst, HO⟩
    rw [wp_pure]; imodintro
    isplitr; · iexact Hmw
    isplitl [Ha Hb Hc Hst]
    · isplitl [Ha]; · iexact Ha
      isplitl [Hb]; · iexact Hb
      isplitl [Hc]; · iexact Hc
      iexact Hst
    isplitl [Hs Hsk Hs']
    · isplitl [Hs Hsk]
      · isplitl [Hsk]; · iexact Hsk
        iexact Hs
      iexact Hs'
    isplitl [Hos Hod]
    · isplitl [Hos]; · iexact Hos
      iexact Hod
    iexists W1; iexact HO

/-- The states before the first trip and after the last, spelt out. -/
theorem inv_first (O : CellTallies nD τ sig (HIx 1)) (u : PUnit) :
    inv d cc E q fs fo fO O 0 u = iprop(MayWaits (S d cc) (none : HIx 1) O
      ∗ (loading d cc E q fs (Ring.sl 4 0) (Ring.sl 16 0) ∗ loading d cc E q fs (Ring.sl 4 1) (Ring.sl 16 1) ∗ idle d cc E 2 ∗ idle d cc E 3)
      ∗ (emp ∗ bigSep (Ring.rangeSet 16 2 16) (srcP d cc E q fs))
      ∗ (bigSep (Ring.rangeSet 16 0 16) (outP d cc E fo) ∗ emp)
      ∗ ∃ W, owes (S d cc) O W) := by
  unfold inv
  rw [ahead_lt d cc E q fs fO (show 0 < 16 by decide), ahead_lt d cc E q fs fO (show 0 + 1 < 16 by decide),
    behind_lt d cc E fO (show 0 + 2 < 4 by decide), behind_lt d cc E fO (show 0 + 3 < 4 by decide),
    Ring.bigSep_rangeSet_empty (show 0 ≤ 0 from le_rfl), Ring.bigSep_rangeSet_empty (show min (0 - 2) 12 ≤ 0 by decide)]
  rfl
theorem inv_last (O : CellTallies nD τ sig (HIx 1)) (u : PUnit) :
    inv d cc E q fs fo fO O 16 u = iprop(MayWaits (S d cc) (none : HIx 1) O
      ∗ (storing d cc E fO (Ring.sl 4 12) (Ring.sl 16 12) ∗ storing d cc E fO (Ring.sl 4 13) (Ring.sl 16 13)
        ∗ storing d cc E fO (Ring.sl 4 14) (Ring.sl 16 14) ∗ storing d cc E fO (Ring.sl 4 15) (Ring.sl 16 15))
      ∗ (bigSep (Ring.rangeSet 16 0 16) (srcP d cc E q fs) ∗ emp)
      ∗ (emp ∗ bigSep (Ring.rangeSet 16 0 12) (outP d cc E fO))
      ∗ ∃ W, owes (S d cc) O W) := by
  unfold inv
  rw [ahead_ge d cc E q fs fO (show 16 ≤ 16 by decide), ahead_ge d cc E q fs fO (show 16 ≤ 16 + 1 by decide),
    show (behind d cc E fO 16 : sProp 𝕄) = _ from behind_add d cc E fO 12, show (behind d cc E fO (16 + 1) : sProp 𝕄) = _ from behind_add d cc E fO 13,
    show (behind d cc E fO (16 + 2) : sProp 𝕄) = _ from behind_add d cc E fO 14, show (behind d cc E fO (16 + 3) : sProp 𝕄) = _ from behind_add d cc E fO 15,
    Ring.bigSep_rangeSet_empty (show 16 ≤ 16 + 2 by decide), Ring.bigSep_rangeSet_empty (show 16 ≤ 16 from le_rfl)]
  rfl

/-- The whole stream: from the source's chunks, the destination's chunks as they were and the four banks idle, to the
    destination's chunks as they are to be, the rest as it was. -/
theorem run_stream (hok : k1_t1_loop.OK) (hO : ∀ b, (E.out b).view.read (Elt F) (fO b) = (E.src b).view.read (Elt F) (fs b))
    (O : CellTallies nD τ sig (HIx 1)) (W : Waits sig (HIx 1)) :
    iprop(MayWaits (S d cc) (none : HIx 1) O ∗ bigSep Finset.univ (srcP d cc E q fs) ∗ bigSep Finset.univ (outP d cc E fo)
        ∗ (idle d cc E 0 ∗ idle d cc E 1 ∗ idle d cc E 2 ∗ idle d cc E 3) ∗ owes (S d cc) O W)
      ⊢ wp frame (wpE (defs₀ (F := F)) 𝒱₀ (S d cc) none) Set.univ (stream cc E hok) fun _ => iprop(bigSep Finset.univ (srcP d cc E q fs) ∗ bigSep Finset.univ (outP d cc E fO)
        ∗ (idle d cc E 0 ∗ idle d cc E 1 ∗ idle d cc E 2 ∗ idle d cc E 3) ∗ ∃ W', owes (S d cc) O W') := by
  unfold stream
  rw [← Ring.rangeSet_univ (NB := 16), run_last (outP d cc E fO) (show 15 < 16 by decide), run_last (outP d cc E fO) (show 14 < 16 by decide),
    run_last (outP d cc E fO) (show 13 < 16 by decide), run_last (outP d cc E fO) (show 12 < 16 by decide)]
  have hs : bigSep (Ring.rangeSet 16 0 16) (srcP d cc E q fs)
      = iprop(srcP d cc E q fs (Ring.sl 16 0) ∗ srcP d cc E q fs (Ring.sl 16 1) ∗ bigSep (Ring.rangeSet 16 2 16) (srcP d cc E q fs)) := by
    rw [run_head _ (show 0 < 16 by decide), run_head _ (show 0 + 1 < 16 by decide)]
  iintro ⟨#Hmw, Hs, Ho, ⟨Hi0, Hi1, Hi2, Hi3⟩, HO⟩
  ihave Hs' := (Entails.of_eq hs) $$ Hs
  icases Hs' with ⟨Hs0, Hs1, Hs⟩
  iapply (run_startIn d cc E q fs 0) $$ [Hs0 Hi0]
  · isplitl [Hs0]; · iexact Hs0
    iexact Hi0
  iintro Hl0
  iapply (run_startIn d cc E q fs 1) $$ [Hs1 Hi1]
  · isplitl [Hs1]; · iexact Hs1
    iexact Hi1
  iintro Hl1
  iapply (Scf.wp_for_bind _ _ _ _ _ _ hok _ _ (inv d cc E q fs fo fO O) (fun k u => run_trip d cc E q fs fo fO hO O k.isLt u)) $$ [Hl0 Hl1 Hi2 Hi3 Hs Ho HO]
  · rw [inv_first]
    isplitr; · iexact Hmw
    isplitl [Hl0 Hl1 Hi2 Hi3]
    · isplitl [Hl0]; · iexact Hl0
      isplitl [Hl1]; · iexact Hl1
      isplitl [Hi2]; · iexact Hi2
      iexact Hi3
    isplitl [Hs]
    · isplitr; · iempintro
      iexact Hs
    isplitl [Ho]
    · isplitl [Ho]; · iexact Ho
      iempintro
    iexists W; iexact HO
  iintro %u HI
  ihave HI' := (Entails.of_eq (show inv d cc E q fs fo fO O (Scf.trips k1_t1_loop.lb k1_t1_loop.ub k1_t1_loop.st) u = _ from inv_last d cc E q fs fo fO O u)) $$ HI
  icases HI' with ⟨-, ⟨Ht0, Ht1, Ht2, Ht3⟩, ⟨Hs, -⟩, ⟨-, Hd⟩, %W0, HO⟩
  iapply (run_waitOut d cc E fO 12) $$ [Ht0 HO]
  · isplitl [Ht0]; · iexact Ht0
    isplitl [HO]; · iexact HO
    iexact Hmw
  iintro %W1 ⟨Hd12, Hi0, HO⟩
  iapply (run_waitOut d cc E fO 13) $$ [Ht1 HO]
  · isplitl [Ht1]; · iexact Ht1
    isplitl [HO]; · iexact HO
    iexact Hmw
  iintro %W2 ⟨Hd13, Hi1, HO⟩
  iapply (run_waitOut d cc E fO 14) $$ [Ht2 HO]
  · isplitl [Ht2]; · iexact Ht2
    isplitl [HO]; · iexact HO
    iexact Hmw
  iintro %W3 ⟨Hd14, Hi2, HO⟩
  iapply (run_waitOut d cc E fO 15) $$ [Ht3 HO]
  · isplitl [Ht3]; · iexact Ht3
    isplitl [HO]; · iexact HO
    iexact Hmw
  iintro %W4 ⟨Hd15, Hi3, HO⟩
  rw [wp_pure]; imodintro
  isplitl [Hs]; · iexact Hs
  isplitl [Hd Hd12 Hd13 Hd14 Hd15]
  · isplitl [Hd15]; · iexact Hd15
    isplitl [Hd14]; · iexact Hd14
    isplitl [Hd13]; · iexact Hd13
    isplitl [Hd12]; · iexact Hd12
    iexact Hd
  isplitl [Hi0 Hi1 Hi2 Hi3]
  · isplitl [Hi0]; · iexact Hi0
    isplitl [Hi1]; · iexact Hi1
    isplitl [Hi2]; · iexact Hi2
    iexact Hi3
  iexists W4; iexact HO

end Run

end Cert.Proof.Queue

end
-- ==== Proof.Body.lean ====
/-
The SparseCore kernel's two branches are the stream of Proof/Stream.lean: on core 0 from the features' rows, on core 1 from
the queue's upper rows, each into its half of the result.
-/
module

public import proofs.«01_k».proof.Proof.Stream

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The chunks, banks and cells -/

abbrev visM : Memref sig .scScalar .hbm S8192x768 .f32 := Memref.whole main_arg0_scs
abbrev visqM : Memref sig .scScalar .hbm S16384x768 .f32 := Memref.whole main_arg2_scs
abbrev visoM : Memref sig .scScalar .hbm S16384x768 .f32 := Memref.whole main_v1_scs
abbrev ringM : Memref sig .scScalar .shared S4x512x768 .f32 := Memref.whole cc1_scratch0

/-- Core `c`'s coordinate in the call's grid. -/
def coordsS (c : Fin (grid1.bound 0)) : grid1.Coords := fun | 0 => c | ⟨_ + 1, h⟩ => absurd h (Nat.not_lt.2 (Nat.le_add_left _ _))

theorem inb_bank (j : Fin 4) : ∀ a, (![j.val, 0, 0] : Fin 3 → Nat) a + S1x512x768.size a ≤ S4x512x768.size a := by
  have := j.isLt; intro a; fin_cases a <;> simp <;> omega
theorem inb_cell (j : Fin 4) : ∀ a, (![j.val] : Fin 1 → Nat) a + S1.size a ≤ S4.size a := by
  have := j.isLt; intro a; fin_cases a; simp
theorem inb_vis (b : Fin 16) : ∀ a, (![512 * b.val, 0] : Fin 2 → Nat) a + S512x768.size a ≤ S8192x768.size a := by
  have := b.isLt; intro a; fin_cases a <;> simp <;> omega
theorem inb_out (h : Fin 2) (b : Fin 16) : ∀ a, (![8192 * h.val + 512 * b.val, 0] : Fin 2 → Nat) a + S512x768.size a ≤ S16384x768.size a := by
  have := b.isLt; have := h.isLt; intro a; fin_cases a <;> simp <;> omega

/-- Bank `j` of the ring; its load cell and its store cell; -/
def bankM (j : Fin 4) : Memref sig .scScalar .shared S512x768 .f32 :=
  (ringM.slice (Rect.unit (s := S4x512x768) ![j.val, 0, 0] S1x512x768.size (inb_bank j)) (fun _ => rfl)).squeeze S512x768 squeezes_S1x512x768_S512x768
def inA (j : Fin 4) : DmaSem sig := ((cc1_scratch1.slice (Rect.unit (s := S4) ![j.val] S1.size (inb_cell j))).squeeze S_ squeezes_S1_S_).sem
def outA (j : Fin 4) : DmaSem sig := ((cc1_scratch2.slice (Rect.unit (s := S4) ![j.val] S1.size (inb_cell j))).squeeze S_ squeezes_S1_S_).sem
/-- chunk `b` of the features; of half `h` of the queue or of the result. -/
def visC (b : Fin 16) : Memref sig .scScalar .hbm S512x768 .f32 :=
  visM.slice (Rect.unit (s := S8192x768) ![512 * b.val, 0] S512x768.size (inb_vis b)) (fun _ => rfl)
def halfC (M : Memref sig .scScalar .hbm S16384x768 .f32) (h : Fin 2) (b : Fin 16) : Memref sig .scScalar .hbm S512x768 .f32 :=
  M.slice (Rect.unit (s := S16384x768) ![8192 * h.val + 512 * b.val, 0] S512x768.size (inb_out h b)) (fun _ => rfl)

/-- Core 0's stream and core 1's. -/
def ends0 : Ends := ⟨bankM, inA, outA, visC, halfC visoM 0⟩
def ends1 : Ends := ⟨bankM, inA, outA, halfC visqM 1, halfC visoM 1⟩

/-! ## A memref or a cell at printed offsets, by the offsets' values -/

theorem bank_eq {off : Fin 3 → Nat} (j : Fin 4) (h : off = ![j.val, 0, 0]) (inb) :
    (ringM.slice (Rect.unit (s := S4x512x768) off S1x512x768.size inb) (fun _ => rfl)).squeeze S512x768 squeezes_S1x512x768_S512x768 = bankM j := by
  subst h; rfl
theorem in_eq {off : Fin 1 → Nat} (j : Fin 4) (h : off = ![j.val]) (inb) :
    ((cc1_scratch1.slice (Rect.unit (s := S4) off S1.size inb)).squeeze S_ squeezes_S1_S_).sem = inA j := by subst h; rfl
theorem out_eq {off : Fin 1 → Nat} (j : Fin 4) (h : off = ![j.val]) (inb) :
    ((cc1_scratch2.slice (Rect.unit (s := S4) off S1.size inb)).squeeze S_ squeezes_S1_S_).sem = outA j := by subst h; rfl
theorem vis_eq {off : Fin 2 → Nat} (b : Fin 16) (h : off = ![512 * b.val, 0]) (inb) :
    visM.slice (Rect.unit (s := S8192x768) off S512x768.size inb) (fun _ => rfl) = visC b := by subst h; rfl
theorem half_eq (M : Memref sig .scScalar .hbm S16384x768 .f32) {off : Fin 2 → Nat} (h : Fin 2) (b : Fin 16) (e : off = ![8192 * h.val + 512 * b.val, 0]) (inb) :
    M.slice (Rect.unit (s := S16384x768) off S512x768.size inb) (fun _ => rfl) = halfC M h b := by subst e; rfl

section Ops

variable (cc : Fin τ.nSC)

/-- A transfer or a wait between the stream's ends, however they are spelt. -/
theorem startIn_of (E : Ends) (b : ℕ) {s d m} (hs : s = E.src (Ring.sl 16 b)) (hd : d = E.bank (Ring.sl 4 b)) (hm : m = E.ic (Ring.sl 4 b)) (h₁ h₂ h₃) :
    (Prog.lift (.enqueueDma s (.here d) (.dma m) h₁ h₂ h₃) : SP F cc) = startIn cc E b := by subst hs hd hm; rfl
theorem waitIn_of (E : Ends) (b : ℕ) {s d m} (hs : s = E.src (Ring.sl 16 b)) (hd : d = E.bank (Ring.sl 4 b)) (hm : m = E.ic (Ring.sl 4 b)) (h₁ h₂) :
    (Prog.lift (.waitDma2 m s d h₁ h₂) : SP F cc) = waitIn cc E b := by subst hs hd hm; rfl
theorem startOut_of (E : Ends) (b : ℕ) {s d m} (hs : s = E.bank (Ring.sl 4 b)) (hd : d = E.out (Ring.sl 16 b)) (hm : m = E.oc (Ring.sl 4 b)) (h₁ h₂ h₃) :
    (Prog.lift (.enqueueDma s (.here d) (.dma m) h₁ h₂ h₃) : SP F cc) = startOut cc E b := by subst hs hd hm; rfl
theorem waitOut_of (E : Ends) (b : ℕ) {s d m} (hs : s = E.bank (Ring.sl 4 b)) (hd : d = E.out (Ring.sl 16 b)) (hm : m = E.oc (Ring.sl 4 b)) (h₁ h₂) :
    (Prog.lift (.waitDma2 m s d h₁ h₂) : SP F cc) = waitOut cc E b := by subst hs hd hm; rfl

end Ops

/-! ## Core 0's branch -/

section Core0

abbrev i0 : grid1.Coords := coordsS ⟨0, by decide⟩
abbrev i1 : grid1.Coords := coordsS ⟨1, by decide⟩
theorem c2 : ∀ k : Fin k1_t1_loop.trips, k1_cond2 k = 1#1 ↔ k.val + 2 < 16 := by decide +kernel
theorem c3 : ∀ k : Fin k1_t1_loop.trips, k1_cond3 k = 1#1 ↔ 2 ≤ k.val := by decide +kernel
theorem o4 : ∀ k : Fin k1_t1_loop.trips, k1_off4 k = ![(Ring.sl 4 k.val).val] := by decide +kernel
theorem o5 : ∀ k : Fin k1_t1_loop.trips, k1_off5 k = ![(Ring.sl 4 k.val).val, 0, 0] := by decide +kernel
theorem o6 : ∀ k : Fin k1_t1_loop.trips, k1_off6 i0 k = ![512 * (Ring.sl 16 k.val).val, 0] := by decide +kernel
theorem o7 : ∀ k : Fin k1_t1_loop.trips, k1_off7 i0 k = ![8192 * (0 : Fin 2).val + 512 * (Ring.sl 16 k.val).val, 0] := by decide +kernel
theorem o8 : ∀ k : Fin k1_t1_loop.trips, 2 ≤ k.val → k1_off8 k = ![(Ring.sl 4 (k.val - 2)).val] := by decide +kernel
theorem o9 : ∀ k : Fin k1_t1_loop.trips, 2 ≤ k.val → k1_off9 i0 k = ![8192 * (0 : Fin 2).val + 512 * (Ring.sl 16 (k.val - 2)).val, 0] := by decide +kernel
theorem o10 : ∀ k : Fin k1_t1_loop.trips, 2 ≤ k.val → k1_off10 k = ![(Ring.sl 4 (k.val - 2)).val, 0, 0] := by decide +kernel
theorem o11 : ∀ k : Fin k1_t1_loop.trips, k1_off11 k = ![(Ring.sl 4 (k.val + 2)).val] := by decide +kernel
theorem o12 : ∀ k : Fin k1_t1_loop.trips, k1_off12 k = ![(Ring.sl 4 (k.val + 2)).val, 0, 0] := by decide +kernel
theorem o13 : ∀ k : Fin k1_t1_loop.trips, k.val + 2 < 16 → k1_off13 i0 k = ![512 * (Ring.sl 16 (k.val + 2)).val, 0] := by decide +kernel

/-- Core 0's trip is the stream's, -/
theorem trip0_eq (v0 : BitVec 32) (h : k1_cond1 i0 = 1#1) (k : Fin k1_t1_loop.trips) :
    k1_t1_body (F := F) i0 visM (Memref.isWhole_whole _) visqM (Memref.isWhole_whole _) visoM (Memref.isWhole_whole _) ringM (Memref.isWhole_whole _)
        cc1_scratch1 cc1_scratch2 v0 h k ⟨⟩ = trip ((i0 0).castLE hcore1) ends0 k.val := by
  unfold k1_t1_body trip
  refine congrArg₂ (· >>= ·) (waitIn_of _ ends0 _ (vis_eq _ (o6 k) _) (bank_eq _ (o5 k) _) (in_eq _ (o4 k) _) _ _) (funext fun _ => ?_)
  refine congrArg₂ (· >>= ·) (startOut_of _ ends0 _ (bank_eq _ (o5 k) _) (half_eq visoM 0 _ (o7 k) _) (out_eq _ (o4 k) _) _ _ _) (funext fun _ => ?_)
  by_cases h2 : k.val + 2 < 16
  · rw [dif_pos ((c2 k).2 h2), if_pos h2]
    by_cases h3 : 2 ≤ k.val
    · rw [dif_pos ((c3 k).2 h3), if_pos h3]
      refine congrArg₂ (· >>= ·) (waitOut_of _ ends0 _ (bank_eq _ (o10 k h3) _) (half_eq visoM 0 _ (o9 k h3) _) (out_eq _ (o8 k h3) _) _ _) (funext fun _ => ?_)
      exact congrArg₂ (· >>= ·) (startIn_of _ ends0 _ (vis_eq _ (o13 k h2) _) (bank_eq _ (o12 k) _) (in_eq _ (o11 k) _) _ _ _) rfl
    · rw [dif_neg (mt (c3 k).1 h3), if_neg h3, pure_bind]
      exact congrArg₂ (· >>= ·) (startIn_of _ ends0 _ (vis_eq _ (o13 k h2) _) (bank_eq _ (o12 k) _) (in_eq _ (o11 k) _) _ _ _) rfl
  · rw [dif_neg (mt (c2 k).1 h2), if_neg h2]

end Core0

section Core1

theorem c5 : ∀ k : Fin k1_t2_loop.trips, k1_cond5 k = 1#1 ↔ k.val + 2 < 16 := by decide +kernel
theorem c6 : ∀ k : Fin k1_t2_loop.trips, k1_cond6 k = 1#1 ↔ 2 ≤ k.val := by decide +kernel
theorem o18 : ∀ k : Fin k1_t2_loop.trips, k1_off18 k = ![(Ring.sl 4 k.val).val] := by decide +kernel
theorem o19 : ∀ k : Fin k1_t2_loop.trips, k1_off19 k = ![(Ring.sl 4 k.val).val, 0, 0] := by decide +kernel
theorem o20 : ∀ k : Fin k1_t2_loop.trips, k1_off20 i1 k = ![8192 * (1 : Fin 2).val + 512 * (Ring.sl 16 k.val).val, 0] := by decide +kernel
theorem o21 : ∀ k : Fin k1_t2_loop.trips, 2 ≤ k.val → k1_off21 k = ![(Ring.sl 4 (k.val - 2)).val] := by decide +kernel
theorem o22 : ∀ k : Fin k1_t2_loop.trips, 2 ≤ k.val → k1_off22 i1 k = ![8192 * (1 : Fin 2).val + 512 * (Ring.sl 16 (k.val - 2)).val, 0] := by decide +kernel
theorem o23 : ∀ k : Fin k1_t2_loop.trips, 2 ≤ k.val → k1_off23 k = ![(Ring.sl 4 (k.val - 2)).val, 0, 0] := by decide +kernel
theorem o24 : ∀ k : Fin k1_t2_loop.trips, k1_off24 k = ![(Ring.sl 4 (k.val + 2)).val] := by decide +kernel
theorem o25 : ∀ k : Fin k1_t2_loop.trips, k1_off25 k = ![(Ring.sl 4 (k.val + 2)).val, 0, 0] := by decide +kernel
theorem o26 : ∀ k : Fin k1_t2_loop.trips, k.val + 2 < 16 → k1_off26 i1 k = ![8192 * (1 : Fin 2).val + 512 * (Ring.sl 16 (k.val + 2)).val, 0] := by decide +kernel

/-- Core 1's trip is the stream's, -/
theorem trip1_eq (v0 : BitVec 32) (h : k1_cond4 i1 = 1#1) (k : Fin k1_t2_loop.trips) :
    k1_t2_body (F := F) i1 visM (Memref.isWhole_whole _) visqM (Memref.isWhole_whole _) visoM (Memref.isWhole_whole _) ringM (Memref.isWhole_whole _)
        cc1_scratch1 cc1_scratch2 v0 h k ⟨⟩ = trip ((i1 0).castLE hcore1) ends1 k.val := by
  unfold k1_t2_body trip
  refine congrArg₂ (· >>= ·) (waitIn_of _ ends1 _ (half_eq visqM 1 _ (o20 k) _) (bank_eq _ (o19 k) _) (in_eq _ (o18 k) _) _ _) (funext fun _ => ?_)
  refine congrArg₂ (· >>= ·) (startOut_of _ ends1 _ (bank_eq _ (o19 k) _) (half_eq visoM 1 _ (o20 k) _) (out_eq _ (o18 k) _) _ _ _) (funext fun _ => ?_)
  by_cases h2 : k.val + 2 < 16
  · rw [dif_pos ((c5 k).2 h2), if_pos h2]
    by_cases h3 : 2 ≤ k.val
    · rw [dif_pos ((c6 k).2 h3), if_pos h3]
      refine congrArg₂ (· >>= ·) (waitOut_of _ ends1 _ (bank_eq _ (o23 k h3) _) (half_eq visoM 1 _ (o22 k h3) _) (out_eq _ (o21 k h3) _) _ _) (funext fun _ => ?_)
      exact congrArg₂ (· >>= ·) (startIn_of _ ends1 _ (half_eq visqM 1 _ (o26 k h2) _) (bank_eq _ (o25 k) _) (in_eq _ (o24 k) _) _ _ _) rfl
    · rw [dif_neg (mt (c6 k).1 h3), if_neg h3, pure_bind]
      exact congrArg₂ (· >>= ·) (startIn_of _ ends1 _ (half_eq visqM 1 _ (o26 k h2) _) (bank_eq _ (o25 k) _) (in_eq _ (o24 k) _) _ _ _) rfl
  · rw [dif_neg (mt (c5 k).1 h2), if_neg h2]

end Core1

/-! ## The whole branches -/

variable [FloatOps F]

theorem loop_ok : k1_t1_loop.OK := k1_t1_ok i0 (by decide +kernel)

/-- and its whole branch is the stream: core 0's body. -/
theorem body0_eq : cc1_body (F := F) i0 visM (Memref.isWhole_whole _) visqM (Memref.isWhole_whole _) visoM (Memref.isWhole_whole _) ringM (Memref.isWhole_whole _)
        cc1_scratch1 cc1_scratch2 = stream ((i0 0).castLE hcore1) ends0 loop_ok := by
  rw [cc1_body_eq_skeleton]
  unfold cc1_body_skel
  have h1 : k1_cond1 i0 = 1#1 := by decide +kernel
  have h2 : ¬ k1_cond4 i0 = 1#1 := by decide +kernel
  simp only [dif_pos h1, dif_neg h2, k1_part1_eq_skeleton, k1_part1_skel, stream, bind_assoc, pure_bind, bind_pure]
  refine congrArg₂ (· >>= ·) (startIn_of _ ends0 0 (vis_eq _ (by decide +kernel) _) (bank_eq _ (by decide +kernel) _) (in_eq _ (by decide +kernel) _) _ _ _) (funext fun _ => ?_)
  refine congrArg₂ (· >>= ·) (startIn_of _ ends0 1 (vis_eq _ (by decide +kernel) _) (bank_eq _ (by decide +kernel) _) (in_eq _ (by decide +kernel) _) _ _ _) (funext fun _ => ?_)
  refine congrArg₂ (· >>= ·) (congrArg (Scf.Loop.for k1_t1_loop _ ⟨⟩) (funext fun k => funext fun _ => trip0_eq _ h1 k)) (funext fun _ => ?_)
  refine congrArg₂ (· >>= ·) (waitOut_of _ ends0 12 (bank_eq _ (by decide +kernel) _) (half_eq visoM 0 _ (by decide +kernel) _) (out_eq _ (by decide +kernel) _) _ _) (funext fun _ => ?_)
  refine congrArg₂ (· >>= ·) (waitOut_of _ ends0 13 (bank_eq _ (by decide +kernel) _) (half_eq visoM 0 _ (by decide +kernel) _) (out_eq _ (by decide +kernel) _) _ _) (funext fun _ => ?_)
  refine congrArg₂ (· >>= ·) (waitOut_of _ ends0 14 (bank_eq _ (by decide +kernel) _) (half_eq visoM 0 _ (by decide +kernel) _) (out_eq _ (by decide +kernel) _) _ _) (funext fun _ => ?_)
  exact (waitOut_of _ ends0 15 (bank_eq _ (by decide +kernel) _) (half_eq visoM 0 _ (by decide +kernel) _) (out_eq _ (by decide +kernel) _) _ _)

/-- and its whole branch is the stream: core 1's body. -/
theorem body1_eq : cc1_body (F := F) i1 visM (Memref.isWhole_whole _) visqM (Memref.isWhole_whole _) visoM (Memref.isWhole_whole _) ringM (Memref.isWhole_whole _)
        cc1_scratch1 cc1_scratch2 = stream ((i1 0).castLE hcore1) ends1 loop_ok := by
  rw [cc1_body_eq_skeleton]
  unfold cc1_body_skel
  have h1 : k1_cond4 i1 = 1#1 := by decide +kernel
  have h2 : ¬ k1_cond1 i1 = 1#1 := by decide +kernel
  simp only [dif_pos h1, dif_neg h2, k1_part2_eq_skeleton, k1_part2_skel, stream, bind_assoc, pure_bind, bind_pure]
  refine congrArg₂ (· >>= ·) (startIn_of _ ends1 0 (half_eq visqM 1 _ (by decide +kernel) _) (bank_eq _ (by decide +kernel) _) (in_eq _ (by decide +kernel) _) _ _ _) (funext fun _ => ?_)
  refine congrArg₂ (· >>= ·) (startIn_of _ ends1 1 (half_eq visqM 1 _ (by decide +kernel) _) (bank_eq _ (by decide +kernel) _) (in_eq _ (by decide +kernel) _) _ _ _) (funext fun _ => ?_)
  refine congrArg₂ (· >>= ·) (congrArg (Scf.Loop.for k1_t1_loop _ ⟨⟩) (funext fun k => funext fun _ => trip1_eq _ h1 k)) (funext fun _ => ?_)
  refine congrArg₂ (· >>= ·) (waitOut_of _ ends1 12 (bank_eq _ (by decide +kernel) _) (half_eq visoM 1 _ (by decide +kernel) _) (out_eq _ (by decide +kernel) _) _ _) (funext fun _ => ?_)
  refine congrArg₂ (· >>= ·) (waitOut_of _ ends1 13 (bank_eq _ (by decide +kernel) _) (half_eq visoM 1 _ (by decide +kernel) _) (out_eq _ (by decide +kernel) _) _ _) (funext fun _ => ?_)
  refine congrArg₂ (· >>= ·) (waitOut_of _ ends1 14 (bank_eq _ (by decide +kernel) _) (half_eq visoM 1 _ (by decide +kernel) _) (out_eq _ (by decide +kernel) _) _ _) (funext fun _ => ?_)
  exact (waitOut_of _ ends1 15 (bank_eq _ (by decide +kernel) _) (half_eq visoM 1 _ (by decide +kernel) _) (out_eq _ (by decide +kernel) _) _ _)

end Cert.Proof.Queue

end
-- ==== Proof.Scalar.lean ====
/-
The SparseCore call: what its two cores are handed and hand back, and the obligation of the launch theorem for its body.
-/
module

public import proofs.«01_k».proof.Proof.Body
public import Idealize.ShloMosaic.Lib.Ring.AtN

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)

variable {F : FTy → Type}

local notation "𝕄" => MT nD τ sig (HIx 1) (Elt F) ℕ UU ℕ

/-! ## The result's contents -/

/-- A result's index in the features, when its row is one of the first 8192. -/
def low (i : S16384x768.Idx) (h : (i 0).val < 8192) : S8192x768.Idx
  | 0 => ⟨(i 0).val, h⟩
  | 1 => i 1

/-- The updated queue: the features in the first 8192 rows, the queue's own rows below them. -/
def updated {α : Type} (feat : S8192x768.Idx → α) (queue : S16384x768.Idx → α) : S16384x768.Idx → α := fun i =>
  if h : (i 0).val < 8192 then feat (low i h) else queue i

/-! ## The arrays in chunks -/

/-- Chunk `b` of the features, and chunk `b` of half `h` of a queue, as sets of elements. -/
abbrev visSet (b : Fin 16) : Finset S8192x768.Idx := (Rect.unit (s := S8192x768) ![512 * b.val, 0] S512x768.size (inb_vis b)).set
abbrev halfSet (h : Fin 2) (b : Fin 16) : Finset S16384x768.Idx :=
  (Rect.unit (s := S16384x768) ![8192 * h.val + 512 * b.val, 0] S512x768.size (inb_out h b)).set

theorem mem_halfSet (h : Fin 2) (b : Fin 16) (i : S16384x768.Idx) :
    i ∈ halfSet h b ↔ 8192 * h.val + 512 * b.val ≤ (i 0).val ∧ (i 0).val < 8192 * h.val + 512 * b.val + 512 := by
  rw [Rect.mem_set_unit]
  constructor
  · intro H; exact H 0
  · intro H a
    fin_cases a
    · exact H
    · exact ⟨Nat.zero_le _, by have := (i 1).isLt; simpa using this⟩

theorem vis_disjoint (b b' : Fin 16) (h : b ≠ b') : Disjoint (visSet b) (visSet b') :=
  Ring.lead_disjoint (s := S8192x768) (0 : Fin 2) 512 (fun b : Fin 16 => (![512 * b.val, 0] : Fin 2 → Nat)) S512x768.size inb_vis (fun _ => rfl) rfl b b' h
theorem vis_cover : Finset.univ.biUnion visSet = Finset.univ :=
  Ring.lead_cover (s := S8192x768) (0 : Fin 2) 512 (fun b : Fin 16 => (![512 * b.val, 0] : Fin 2 → Nat)) S512x768.size inb_vis (fun _ => rfl)
    (fun b a ha => by fin_cases a <;> first | exact absurd rfl ha | rfl) rfl (fun a ha => by fin_cases a <;> first | exact absurd rfl ha | rfl) rfl

theorem half_disjoint (h : Fin 2) (b b' : Fin 16) (hb : b ≠ b') : Disjoint (halfSet h b) (halfSet h b') := by
  rw [Finset.disjoint_left]; intro i hi hi'
  rw [mem_halfSet] at hi hi'
  exact hb (Fin.ext (by omega))
/-- Half `h`, whole. -/
def halfU (h : Fin 2) : Finset S16384x768.Idx := Finset.univ.biUnion (halfSet h)
theorem mem_halfU (h : Fin 2) (i : S16384x768.Idx) : i ∈ halfU h ↔ 8192 * h.val ≤ (i 0).val ∧ (i 0).val < 8192 * h.val + 8192 := by
  unfold halfU
  simp only [Finset.mem_biUnion, Finset.mem_univ, true_and, mem_halfSet]
  constructor
  · rintro ⟨b, h1, h2⟩; have := b.isLt; omega
  · rintro ⟨h1, h2⟩; exact ⟨⟨((i 0).val - 8192 * h.val) / 512, by omega⟩, by dsimp only; omega, by dsimp only; omega⟩
theorem halves_disjoint (h h' : Fin 2) (hh : h ≠ h') : Disjoint (halfU h) (halfU h') := by
  rw [Finset.disjoint_left]; intro i hi hi'
  rw [mem_halfU] at hi hi'
  exact hh (Fin.ext (by omega))
theorem halves_cover : Finset.univ.biUnion halfU = Finset.univ := by
  ext i
  simp only [Finset.mem_biUnion, Finset.mem_univ, true_and, iff_true, mem_halfU]
  have h : (i 0).val < 16384 := (i 0).isLt
  exact ⟨⟨(i 0).val / 8192, by omega⟩, by dsimp only; omega, by dsimp only; omega⟩

/-- The features whole are their chunks; -/
theorem vis_chunks (d : Dev nD) (f : Buf (Elt F) (visLoc d)) :
    (visLoc d ↦{fullShare} f : sProp 𝕄) = bigSep Finset.univ fun b : Fin 16 => visLoc d ↦[visSet b]{fullShare} f :=
  Ring.pointsTo_blocks (ℓ := visLoc d) visSet vis_disjoint vis_cover f
/-- the queue whole, or the result, is its two halves' chunks. -/
theorem visq_chunks (d : Dev nD) (f : Buf (Elt F) (visqLoc d)) :
    (visqLoc d ↦{fullShare} f : sProp 𝕄) = iprop((bigSep Finset.univ fun b : Fin 16 => visqLoc d ↦[halfSet 0 b]{fullShare} f)
      ∗ bigSep Finset.univ fun b : Fin 16 => visqLoc d ↦[halfSet 1 b]{fullShare} f) := by
  rw [Ring.pointsTo_blocks (ℓ := visqLoc d) halfU halves_disjoint halves_cover f, show (Finset.univ : Finset (Fin 2)) = {0, 1} by decide,
    SparseCore.bigSep_insert' (by decide), bigSep_singleton,
    Ring.pointsTo_sub_blocks (ℓ := visqLoc d) (halfSet 0) (half_disjoint 0) (halfU 0) rfl, Ring.pointsTo_sub_blocks (ℓ := visqLoc d) (halfSet 1) (half_disjoint 1) (halfU 1) rfl]
theorem viso_chunks (d : Dev nD) (f : Buf (Elt F) (visoLoc d)) :
    (visoLoc d ↦{fullShare} f : sProp 𝕄) = iprop((bigSep Finset.univ fun b : Fin 16 => visoLoc d ↦[halfSet 0 b]{fullShare} f)
      ∗ bigSep Finset.univ fun b : Fin 16 => visoLoc d ↦[halfSet 1 b]{fullShare} f) := by
  rw [Ring.pointsTo_blocks (ℓ := visoLoc d) halfU halves_disjoint halves_cover f, show (Finset.univ : Finset (Fin 2)) = {0, 1} by decide,
    SparseCore.bigSep_insert' (by decide), bigSep_singleton,
    Ring.pointsTo_sub_blocks (ℓ := visoLoc d) (halfSet 0) (half_disjoint 0) (halfU 0) rfl, Ring.pointsTo_sub_blocks (ℓ := visoLoc d) (halfSet 1) (half_disjoint 1) (halfU 1) rfl]

/-- The kernel's chunk memrefs name those elements. -/
theorem visC_set (b : Fin 16) : (visC b).view.set = visSet b := View.set_slice_whole _ _
theorem visqC_set (h : Fin 2) (b : Fin 16) : (halfC visqM h b).view.set = halfSet h b := View.set_slice_whole _ _
theorem visoC_set (h : Fin 2) (b : Fin 16) : (halfC visoM h b).view.set = halfSet h b := View.set_slice_whole _ _

/-! ## The payloads -/

variable (m : (ℓ : Loc nD τ sig) → Buf (Elt F) ℓ)

/-- What the call makes of the result: the updated queue, of the launch contents. -/
def visOut (d : Dev nD) : Buf (Elt F) (visoLoc d) := updated (m (visLoc d)) (m (visqLoc d))

/-- Core 0 takes the features and the result's first half, core 1 the queue's second half and the result's; the result at `f`. -/
def share (f : (d : Dev nD) → Buf (Elt F) (visoLoc d)) (d : Dev nD) (c : ℕ) : sProp 𝕄 :=
  if c = 0 then iprop((bigSep Finset.univ fun b : Fin 16 => visLoc d ↦[visSet b]{fullShare} m (visLoc d))
    ∗ bigSep Finset.univ fun b : Fin 16 => visoLoc d ↦[halfSet 0 b]{fullShare} f d)
  else iprop((bigSep Finset.univ fun b : Fin 16 => visqLoc d ↦[halfSet 1 b]{fullShare} m (visqLoc d))
    ∗ bigSep Finset.univ fun b : Fin 16 => visoLoc d ↦[halfSet 1 b]{fullShare} f d)

instance share_storable (f : (d : Dev nD) → Buf (Elt F) (visoLoc d)) (d : Dev nD) (c : ℕ) : Storable (upEmb : UEmb _ 𝕄) (share m f d c) := by
  unfold share; split <;> infer_instance

/-- The call's payloads: the result as it was launched to the cores, updated back. -/
def P : (K (F := F)).Pay (nD := nD) (Val := Elt F) (Name := ℕ) (U := UU) where
  st := fun _ d c => share m (fun d => m (visoLoc d)) d c.val
  dn := fun _ d c => share m (visOut m) d c.val
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own buffers and cells -/

section Own

variable (d : Dev nD) (c : Fin τ.nSC)

/-- The call's eight cells in the pool: bank `j`'s load cell is cell `6 + j`, its store cell `10 + j`. -/
def pool (k : Fin 8) : DmaSem sig := ⟨6 + k.val, by have := k.isLt; show _ < 14; omega⟩
theorem in_pool : ∀ j : Fin 4, inA j = pool ⟨j.val, by omega⟩ := by decide +kernel
theorem out_pool : ∀ j : Fin 4, outA j = pool ⟨4 + j.val, by omega⟩ := by decide +kernel
abbrev dcell (k : Fin 8) : GSem nD τ sig := (S d c, .dma (pool k))
abbrev cellZ (k : Fin 8) : sProp 𝕄 := semVal (dcell d c k) 0

theorem dcell_mem (k : Fin 8) : dcell d c k ∈ ownCells (S d c) :=
  mem_ownCells.mpr ⟨rfl, (show ∀ k : Fin 8, (SemLoc.dma (pool k) : SemLoc sig).isScoped .scScalar = true by decide +kernel) k⟩

/-- The sequencer's own cells at zero are those eight and the rest; -/
theorem ownSems0_S :
    (ownSems0 (S d c) : sProp 𝕄)
      = iprop((cellZ d c 0 ∗ cellZ d c 1 ∗ cellZ d c 2 ∗ cellZ d c 3 ∗ cellZ d c 4 ∗ cellZ d c 5 ∗ cellZ d c 6 ∗ cellZ d c 7)
          ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, pool, Fin.mk.injEq] at this; exact Fin.ext (by omega))]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev ringLoc : Loc nD τ sig := (S d c).loc cc1_scratch0

/-- and its own buffers are the ring at something and the rest. -/
theorem ownBufs_S :
    (ownBufs (S d c) : sProp 𝕄)
      = iprop((∃ f, ringLoc d c ↦{fullShare} f)
          ∗ bigSep ((ownRefs (τ := τ) (.scScalar c)).erase ((Proc.scScalar c).devRef cc1_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc1_scratch0)).mpr rfl)

abbrev bankSet (j : Fin 4) : Finset S4x512x768.Idx := (Rect.unit (s := S4x512x768) ![j.val, 0, 0] S1x512x768.size (inb_bank j)).set
theorem bankM_set (j : Fin 4) : (bankM j).view.set = bankSet j := by
  simp only [bankM, Memref.view_squeeze, View.set_reshape]; exact View.set_slice_whole _ _
theorem banks_disjoint (j j' : Fin 4) (hj : j ≠ j') : Disjoint (bankSet j) (bankSet j') :=
  Ring.lead_disjoint (s := S4x512x768) (0 : Fin 3) 1 (fun j : Fin 4 => (![j.val, 0, 0] : Fin 3 → Nat)) S1x512x768.size inb_bank (fun j => by simp) rfl j j' hj
theorem banks_cover : Finset.univ.biUnion bankSet = Finset.univ :=
  Ring.lead_cover (s := S4x512x768) (0 : Fin 3) 1 (fun j : Fin 4 => (![j.val, 0, 0] : Fin 3 → Nat)) S1x512x768.size inb_bank (fun j => by simp)
    (fun j a ha => by fin_cases a <;> first | exact absurd rfl ha | rfl) rfl (fun a ha => by fin_cases a <;> first | exact absurd rfl ha | rfl) rfl

variable (src out : Fin 16 → Memref sig .scScalar .hbm S512x768 .f32)

/-- A stream through the ring's banks and the call's cells. -/
abbrev ends : Ends := ⟨bankM, inA, outA, src, out⟩

theorem bankP_eq (j : Fin 4) (f : Buf (Elt F) (ringLoc d c)) :
    ((bankM j).view.loc (S d c) ↦[(bankM j).view.set]{fullShare} f : sProp 𝕄) = ringLoc d c ↦[bankSet j]{fullShare} f := by
  rw [bankM_set]; rfl
/-- The ring whole at anything is its four banks at something each, and back. -/
theorem banks_in :
    (iprop(∃ f, ringLoc d c ↦{fullShare} f) : sProp 𝕄)
      ⊢ iprop(bankP d c (ends src out) 0 ∗ bankP d c (ends src out) 1 ∗ bankP d c (ends src out) 2 ∗ bankP d c (ends src out) 3) :=
  Ring.slots4_split (U := UU) (ℓ := ringLoc d c) (q := fullShare) bankSet banks_disjoint banks_cover _ _ _ _
    (bankP_eq d c 0) (bankP_eq d c 1) (bankP_eq d c 2) (bankP_eq d c 3)
theorem banks_out :
    (iprop(bankP d c (ends src out) 0 ∗ bankP d c (ends src out) 1 ∗ bankP d c (ends src out) 2 ∗ bankP d c (ends src out) 3) : sProp 𝕄)
      ⊢ iprop(∃ f, ringLoc d c ↦{fullShare} f) :=
  Ring.slots4_join (U := UU) (ℓ := ringLoc d c) (q := fullShare) bankSet banks_disjoint banks_cover _ _ _ _
    (bankP_eq d c 0) (bankP_eq d c 1) (bankP_eq d c 2) (bankP_eq d c 3)

theorem icZ_eq (j : Fin 4) : (icZ d c (ends src out) j : sProp 𝕄) = cellZ d c ⟨j.val, by omega⟩ :=
  congrArg (fun i => (semVal ((S d c, .dma i) : GSem nD τ sig) 0 : sProp 𝕄)) (in_pool j)
theorem ocZ_eq (j : Fin 4) : (ocZ d c (ends src out) j : sProp 𝕄) = cellZ d c ⟨4 + j.val, by omega⟩ :=
  congrArg (fun i => (semVal ((S d c, .dma i) : GSem nD τ sig) 0 : sProp 𝕄)) (out_pool j)

/-- The ring and the eight cells are the four banks idle, and back. -/
theorem idle_in :
    (iprop((∃ f, ringLoc d c ↦{fullShare} f)
        ∗ (cellZ d c 0 ∗ cellZ d c 1 ∗ cellZ d c 2 ∗ cellZ d c 3 ∗ cellZ d c 4 ∗ cellZ d c 5 ∗ cellZ d c 6 ∗ cellZ d c 7)) : sProp 𝕄)
      ⊢ iprop(idle d c (ends src out) 0 ∗ idle d c (ends src out) 1 ∗ idle d c (ends src out) 2 ∗ idle d c (ends src out) 3) := by
  unfold idle
  simp only [icZ_eq, ocZ_eq]
  iintro ⟨Hr, H0, H1, H2, H3, H4, H5, H6, H7⟩
  ihave Hb := (banks_in (F := F) d c src out) $$ Hr
  icases Hb with ⟨B0, B1, B2, B3⟩
  isplitl [B0 H0 H4]
  · isplitl [B0]; · iexact B0
    isplitl [H0]; · iexact H0
    iexact H4
  isplitl [B1 H1 H5]
  · isplitl [B1]; · iexact B1
    isplitl [H1]; · iexact H1
    iexact H5
  isplitl [B2 H2 H6]
  · isplitl [B2]; · iexact B2
    isplitl [H2]; · iexact H2
    iexact H6
  isplitl [B3]; · iexact B3
  isplitl [H3]; · iexact H3
  iexact H7
theorem idle_out :
    (iprop(idle d c (ends src out) 0 ∗ idle d c (ends src out) 1 ∗ idle d c (ends src out) 2 ∗ idle d c (ends src out) 3) : sProp 𝕄)
      ⊢ iprop((∃ f, ringLoc d c ↦{fullShare} f)
        ∗ (cellZ d c 0 ∗ cellZ d c 1 ∗ cellZ d c 2 ∗ cellZ d c 3 ∗ cellZ d c 4 ∗ cellZ d c 5 ∗ cellZ d c 6 ∗ cellZ d c 7)) := by
  unfold idle
  simp only [icZ_eq, ocZ_eq]
  iintro ⟨⟨B0, H0, H4⟩, ⟨B1, H1, H5⟩, ⟨B2, H2, H6⟩, B3, H3, H7⟩
  isplitl [B0 B1 B2 B3]
  · iapply (banks_out (F := F) d c src out)
    isplitl [B0]; · iexact B0
    isplitl [B1]; · iexact B1
    isplitl [B2]; · iexact B2
    iexact B3
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Own

/-! ## The body's obligation -/

variable [FloatOps F]

/-- A stream through the call's ring, in the obligation's shape: the sequencer's scoped buffers opened at the ring and its
    scoped cells at the eight, and packed again. -/
theorem body_of (src out : Fin 16 → Memref sig .scScalar .hbm S512x768 .f32) (d : Dev nD) (c : Fin τ.nSC)
    (fs : (b : Fin 16) → Buf (Elt F) ((src b).view.loc (S d c))) (fo fO : (b : Fin 16) → Buf (Elt F) ((out b).view.loc (S d c)))
    (hv : ∀ b, (out b).view.read (Elt F) (fO b) = (src b).view.read (Elt F) (fs b))
    (O : CellTallies nD τ sig (HIx 1)) (W : Waits sig (HIx 1)) (hO : ∀ g, O g none = 0) {st dn : sProp 𝕄}
    (hst : st = iprop(bigSep Finset.univ (srcP d c (ends src out) fullShare fs) ∗ bigSep Finset.univ (outP d c (ends src out) fo)))
    (hdn : dn = iprop(bigSep Finset.univ (srcP d c (ends src out) fullShare fs) ∗ bigSep Finset.univ (outP d c (ends src out) fO))) :
    iprop(levAts (K (F := F)).L (K (F := F)).lev ∗ emp ∗ st ∗ scopedBufs (S d c) ∗ scopedSems0 (S d c) ∗ owes (S d c) O W)
      ⊢ wp frame (wpE (defs₀ (F := F)) 𝒱₀ (S d c) none) Set.univ (stream c (ends src out) loop_ok)
          fun _ => iprop(dn ∗ scopedBufs (S d c) ∗ scopedSems0 (S d c)
            ∗ ∃ W', ⌜∀ p ∈ W', p ∈ W ∨ p.2 = none ∨ p.2 = some (0 : Fin 1)⌝ ∗ owes (S d c) O W') := by
  rw [(K (F := F)).scopedBufs_S facts d _, SparseCore.Cfg.scopedSems0_S (Val := Elt F) d _, ownSems0_S, ownBufs_S, hst, hdn]
  iintro ⟨#Hlv, -, ⟨Hs, Ho⟩, ⟨⟨Hsh, Hbufs⟩, Htiles⟩, ⟨⟨HC, Hsems⟩, HtileSems⟩, HO⟩
  ihave Hmw := ((K (F := F)).mayWaits_none (thr := S d c) hO) $$ Hlv
  ihave Hid := (idle_in (F := F) d c src out) $$ [Hsh HC]; · isplitl [Hsh] <;> iassumption
  iapply (wp_wand_r Idealize.ShloMosaic.frame (wpE (defs₀ (F := F)) 𝒱₀ (S d c) none) Set.univ)
  isplitl [Hs Ho Hid HO]
  · iapply (run_stream d c (ends src out) fullShare fs fo fO loop_ok hv O W)
    isplitr; · iexact Hmw
    isplitl [Hs]; · iexact Hs
    isplitl [Ho]; · iexact Ho
    isplitl [Hid]; · iexact Hid
    iexact HO
  iintro %_ ⟨Hs, Ho, Hid, %W', HO⟩
  ihave Hid' := (idle_out (F := F) d c src out) $$ Hid
  icases Hid' with ⟨Hsh, HC⟩
  isplitl [Hs Ho]
  · isplitl [Hs] <;> iassumption
  isplitl [Hsh Hbufs Htiles]
  · isplitl [Hsh Hbufs]
    · isplitl [Hsh] <;> iassumption
    iexact Htiles
  isplitl [HC Hsems HtileSems]
  · isplitl [HC Hsems]
    · isplitl [HC] <;> iassumption
    iexact HtileSems
  iexists W'; isplitr
  · ipureintro; intro p _
    rcases p.2 with _ | q
    · exact .inr (.inl rfl)
    · exact .inr (.inr (congrArg some (Subsingleton.elim q 0)))
  · iexact HO

/-- Each core's share of the arrays is its stream's chunks. -/
theorem share0_eq (f : (d : Dev nD) → Buf (Elt F) (visoLoc d)) (d : Dev nD) (c : Fin τ.nSC) :
    share m f d 0 = iprop(bigSep Finset.univ (srcP d c (ends visC (halfC visoM 0)) fullShare (fun _ => m (visLoc d)))
      ∗ bigSep Finset.univ (outP d c (ends visC (halfC visoM 0)) (fun _ => f d))) := by
  unfold share srcP outP
  rw [if_pos rfl]
  simp only [visC_set, visoC_set]
  rfl
theorem share1_eq (f : (d : Dev nD) → Buf (Elt F) (visoLoc d)) (d : Dev nD) (c : Fin τ.nSC) :
    share m f d 1 = iprop(bigSep Finset.univ (srcP d c (ends (halfC visqM 1) (halfC visoM 1)) fullShare (fun _ => m (visqLoc d)))
      ∗ bigSep Finset.univ (outP d c (ends (halfC visqM 1) (halfC visoM 1)) (fun _ => f d))) := by
  unfold share srcP outP
  rw [if_neg (by decide)]
  simp only [visqC_set, visoC_set]
  rfl

/-- The updated queue reads as the features in each chunk of the first half, -/
theorem read0 (d : Dev nD) (b : Fin 16) : (halfC visoM 0 b).view.read (Elt F) (visOut m d) = (visC b).view.read (Elt F) (m (visLoc d)) := by
  funext j
  show visOut m d ((Rect.unit (s := S16384x768) ![8192 * (0 : Fin 2).val + 512 * b.val, 0] S512x768.size (inb_out 0 b)).emb j)
    = m (visLoc d) ((Rect.unit (s := S8192x768) ![512 * b.val, 0] S512x768.size (inb_vis b)).emb j)
  have hj : (j 0).val < 512 := (j 0).isLt
  have hb := b.isLt
  unfold visOut updated
  rw [dif_pos (by simp [Rect.emb_apply]; omega)]
  congr 1
  funext a
  match a with
  | 0 => exact Fin.ext (by simp [low, Rect.emb_apply])
  | 1 => exact Fin.ext (by simp [low, Rect.emb_apply])
/-- and as the queue in each of the second. -/
theorem read1 (d : Dev nD) (b : Fin 16) : (halfC visoM 1 b).view.read (Elt F) (visOut m d) = (halfC visqM 1 b).view.read (Elt F) (m (visqLoc d)) := by
  funext j
  show visOut m d ((Rect.unit (s := S16384x768) ![8192 * (1 : Fin 2).val + 512 * b.val, 0] S512x768.size (inb_out 1 b)).emb j)
    = m (visqLoc d) ((Rect.unit (s := S16384x768) ![8192 * (1 : Fin 2).val + 512 * b.val, 0] S512x768.size (inb_out 1 b)).emb j)
  unfold visOut updated
  rw [dif_neg (by simp [Rect.emb_apply]; omega)]

theorem defs₀_scalar (c : Fin τ.nSC) :
    defs₀ (F := F) (.scScalar c) 1 ()
      = SparseCore.onCore hcore1 (fun c => cc1_body (coordsS c) visM (Memref.isWhole_whole _) visqM (Memref.isWhole_whole _) visoM (Memref.isWhole_whole _)
          ringM (Memref.isWhole_whole _) cc1_scratch1 cc1_scratch2) ⟨⟩ c := rfl

/-- The launch theorem's obligation at the call: each core's sequencer runs its stream. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  match c with
  | ⟨0, h⟩ =>
    change _ ⊢ wp _ _ _ (cc1_body (F := F) i0 visM (Memref.isWhole_whole _) visqM (Memref.isWhole_whole _) visoM (Memref.isWhole_whole _)
      ringM (Memref.isWhole_whole _) cc1_scratch1 cc1_scratch2) _
    rw [body0_eq]
    exact body_of visC (halfC visoM 0) d _ _ _ _ (read0 m d) O W hO (share0_eq m (fun d => m (visoLoc d)) d _) (share0_eq m (visOut m) d _)
  | ⟨1, h⟩ =>
    change _ ⊢ wp _ _ _ (cc1_body (F := F) i1 visM (Memref.isWhole_whole _) visqM (Memref.isWhole_whole _) visoM (Memref.isWhole_whole _)
      ringM (Memref.isWhole_whole _) cc1_scratch1 cc1_scratch2) _
    rw [body1_eq]
    exact body_of (halfC visqM 1) (halfC visoM 1) d _ _ _ _ (read1 m d) O W hO (share1_eq m (fun d => m (visoLoc d)) d _) (share1_eq m (visOut m) d _)

end Cert.Proof.Queue

end
-- ==== Proof.Region.lean ====
/-
The TensorCore call: a pipeline of 16 grid points over blocks of 1024 rows, each point's body copying one block of the
features or of the queue into the result's staging buffer.
-/
module

public import proofs.«01_k».proof.Proof.Scalar
public import Idealize.ShloMosaic.Lib.Pipeline.FrameBody
public import Idealize.ShloMosaic.Lib.Pipeline.Value
public import Idealize.ShloMosaic.Lib.VecWindow

@[expose] public section

noncomputable section

namespace Cert.Proof.Queue

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-! ## The body at one grid point -/

theorem zero_off : (![0, 0] : Fin 2 → Nat) = fun _ => 0 := funext fun a => by fin_cases a <;> rfl

/-- The first branch is taken at the first eight points, the second at the others. -/
theorem cond1_iff : ∀ t : Fin grid0.N, k0_cond1 (grid0.coords t) = 1#1 ↔ t.val < 8 := by decide +kernel
theorem cond2_iff : ∀ t : Fin grid0.N, k0_cond2 (grid0.coords t) = 1#1 ↔ ¬ t.val < 8 := by decide +kernel

/-- The body copies the block staged from the features where its first branch is taken, the queue's where its second
    is, into the result's staging buffer, whatever that held. -/
theorem copy_body (c : Dev nD) (i : grid0.Coords) (n : ℕ) (h1 : k0_cond1 i = 1#1 ↔ n < 8) (h2 : k0_cond2 i = 1#1 ↔ ¬ n < 8)
    (M1 : Memref sig .tc .vmem S1024x768 .f32) (w1 : M1.IsWhole) (M2 : Memref sig .tc .vmem S1024x768 .f32) (w2 : M2.IsWhole)
    (M3 : Memref sig .tc .vmem S1024x768 .f32) (w3 : M3.IsWhole) (X1 X2 X3 : S1024x768.Idx → Elt F .f32) (R R' : sProp 𝕄) :
    iprop(R ∗ R' ∗ owns (c : Thread nD τ) M1 fullShare X1 ∗ owns (c : Thread nD τ) M2 fullShare X2 ∗ owns (c : Thread nD τ) M3 fullShare X3)
      ⊢ wp frame (wpE (defs₀ (F := F)) 𝒱₀ (c : Thread nD τ) none) Set.univ (cc0__tc_copy_body i M1 w1 M2 w2 M3 w3) fun _ =>
        iprop(R ∗ R' ∗ owns (c : Thread nD τ) M1 fullShare X1 ∗ owns (c : Thread nD τ) M2 fullShare X2
          ∗ owns (c : Thread nD τ) M3 fullShare (if n < 8 then X1 else X2)) := by
  unfold owns
  by_cases hn : n < 8
  · rw [if_pos hn]
    have e2 : ¬ k0_cond2 i = 1#1 := fun e => (h2.mp e) hn
    unfold cc0__tc_copy_body
    rw [dif_pos (h1.mpr hn), dif_neg e2]
    iintro ⟨HR, HR', ⟨%f1, %q1, H1⟩, ⟨%f2, %q2, H2⟩, ⟨%f3, -, H3⟩⟩
    sl_exec!
    sl_step
    isplitl [HR]; · iexact HR
    isplitl [HR']; · iexact HR'
    isplitl [H1]
    · iexists f1; isplitr; · (ipureintro; exact q1)
      iexact H1
    isplitl [H2]
    · iexists f2; isplitr; · (ipureintro; exact q2)
      iexact H2
    iexists _; isplitr; swap; · iexact H3
    ipureintro
    exact (View.read_writes_full M3.view _ _ _ []).trans ((View.ld_unit_zero zero_off _ _).trans q1)
  · rw [if_neg hn]
    have e1 : ¬ k0_cond1 i = 1#1 := fun e => hn (h1.mp e)
    unfold cc0__tc_copy_body
    rw [dif_neg e1, dif_pos (h2.mpr hn)]
    iintro ⟨HR, HR', ⟨%f1, %q1, H1⟩, ⟨%f2, %q2, H2⟩, ⟨%f3, -, H3⟩⟩
    sl_exec!
    sl_step
    isplitl [HR]; · iexact HR
    isplitl [HR']; · iexact HR'
    isplitl [H1]
    · iexists f1; isplitr; · (ipureintro; exact q1)
      iexact H1
    isplitl [H2]
    · iexists f2; isplitr; · (ipureintro; exact q2)
      iexact H2
    iexists _; isplitr; swap; · iexact H3
    ipureintro
    exact (View.read_writes_full M3.view _ _ _ []).trans ((View.ld_unit_zero zero_off _ _).trans q2)

/-! ## The pipeline's proof data -/

variable (m : (ℓ : Loc nD τ sig) → Buf (Elt F) ℓ)

/-- What the TensorCore's waits have recorded before the SparseCore call: nothing above level 0. -/
def below (d : Dev nD) : Set (SemLoc sig × HIx 1) := {p | (K (F := F)).lev (SparseCore.T d, p.1) p.2 ≤ 0}

/-- The blocks of the two inputs that point `t` stages. -/
abbrev featBlk (d : Dev nD) (t : Fin cfg0.N) : S1024x768.Idx → Elt F .f32 := ((cfg0.win 0).blk t).view.read (Elt F) (m (lagLoc d))
abbrev queueBlk (d : Dev nD) (t : Fin cfg0.N) : S1024x768.Idx → Elt F .f32 := ((cfg0.win 1).blk t).view.read (Elt F) (m (lagqLoc d))

/-- The arrays as launched; after a point's body the inputs' buffers as staged and the result's at the block copied; the
    start signals of the SparseCore call owed throughout. -/
def dat (d : Dev nD) : Dat τ (Elt F) (HIx 1) ℕ UU ℕ cfg0 d where
  A w := m ((SparseCore.T d).loc (Pipeline.arrRef spec0 w))
  after w t := match w with
    | ⟨0, _⟩ => featBlk m d t
    | ⟨1, _⟩ => queueBlk m d t
    | ⟨2, _⟩ => if t.val < 8 then featBlk m d t else queueBlk m d t
  Φ _ := BI.emp
  q _ := fullShare
  owed _ := (K (F := F)).Otc d 0
  recorded _ := below (F := F) d

theorem before0 (d : Dev nD) (t : Fin cfg0.N) (X : S1024x768.Idx → Elt F .f32) : (dat m d).before 0 t X = featBlk m d t :=
  (dat m d).before_in_eq_fetched 0 rfl (fun _ => rfl) (fun _ _ _ => rfl) (fun _ => rfl) t X
theorem before1 (d : Dev nD) (t : Fin cfg0.N) (X : S1024x768.Idx → Elt F .f32) : (dat m d).before 1 t X = queueBlk m d t :=
  (dat m d).before_in_eq_fetched 1 rfl (fun _ => rfl) (fun _ _ _ => rfl) (fun _ => rfl) t X

/-- At every point one of the two branches stores the result's block. -/
theorem never_idle : ∀ t : Fin grid0.N, idle0 2 (grid0.coords t) = false := by decide +kernel

/-- The body's obligation at every point. -/
theorem body_obligation (d : Dev nD) : BodyObligation (dat m d) (defs₀ (F := F)) 𝒱₀ none Set.univ := fun t => by
  rw [bigSep_W0, bigSep_W0]
  dsimp only
  rw [never_idle t]
  simp only [before0, before1]
  iintro ⟨HΦ, HO, ⟨%d0, H0⟩, ⟨%d1, H1⟩, ⟨%d2, H2⟩⟩
  iapply (copy_body d (grid0.coords t) t.val (cond1_iff t) (cond2_iff t)
    (st0_0 t) (hstage0_0 ((cfg0.slots t 0).cast nbuf0_0)) (st0_1 t) (hstage0_1 ((cfg0.slots t 1).cast nbuf0_1)) (st0_2 t) (hstage0_2 ((cfg0.slots t 2).cast nbuf0_2))
    (featBlk m d t) (queueBlk m d t) ((dat m d).before 2 t d2) ((dat m d).Φ t.castSucc) ((dat m d).owesAt none t.castSucc))
  isplitl [HΦ]; · iexact HΦ
  isplitl [HO]; · iexact HO
  isplitl [H0]; · iexact H0
  isplitl [H1]; · iexact H1
  iexact H2

/-! ## What the pipeline leaves -/

theorem index0 : ∀ t : Fin grid0.N, t.val < 8 → win0_0.index t = ![t.val, 0] := by decide +kernel
theorem index1 : ∀ t : Fin grid0.N, ¬ t.val < 8 → win0_1.index t = ![t.val, 0] := by decide +kernel
theorem index2 : ∀ t : Fin grid0.N, win0_2.index t = ![t.val, 0] := by decide +kernel

/-- The result of the TensorCore call. -/
abbrev lagOut (d : Dev nD) : S16384x768.Idx → Elt F .f32 := updated (m (lagLoc d)) (m (lagqLoc d))

/-- What point `t` writes back is block `t` of the updated queue. -/
theorem flushed_eq (d : Dev nD) (t : Fin cfg0.N) :
    (dat m d).flushed 2 t = ((cfg0.win 2).blk t).view.read (Elt F) (lagOut m d) := by
  have e2 := congrFun (index2 t)
  show (if t.val < 8 then featBlk m d t else queueBlk m d t) = _
  funext j
  show _ = lagOut m d ((win0_2.rect t).emb j)
  have v0 : ((win0_2.rect t).emb j 0).val = 1024 * t.val + (j 0).val := by
    show win0_2.index t 0 * 1024 + 1 * (j 0).val = _
    rw [e2 0]; show t.val * 1024 + 1 * _ = _; omega
  have hj : (j 0).val < 1024 := (j 0).isLt
  unfold lagOut updated
  by_cases ht : t.val < 8
  · rw [if_pos ht, dif_pos (by omega)]
    show m (lagLoc d) ((win0_0.rect t).emb j) = m (lagLoc d) (low ((win0_2.rect t).emb j) _)
    refine congrArg (m (lagLoc d)) (funext fun a => Fin.ext ?_)
    have e0 := congrFun (index0 t ht)
    match a with
    | 0 =>
      show win0_0.index t 0 * 1024 + 1 * (j 0).val = ((win0_2.rect t).emb j 0).val
      rw [v0, e0 0]; show t.val * 1024 + 1 * _ = _; omega
    | 1 =>
      show win0_0.index t 1 * 768 + 1 * (j 1).val = win0_2.index t 1 * 768 + 1 * (j 1).val
      rw [e0 1, e2 1]
  · rw [if_neg ht, dif_neg (by omega)]
    show m (lagqLoc d) ((win0_1.rect t).emb j) = m (lagqLoc d) ((win0_2.rect t).emb j)
    refine congrArg (m (lagqLoc d)) (funext fun a => Fin.ext ?_)
    have e1 := congrFun (index1 t ht)
    match a with
    | 0 =>
      show win0_1.index t 0 * 1024 + 1 * (j 0).val = win0_2.index t 0 * 1024 + 1 * (j 0).val
      rw [e1 0, e2 0]
    | 1 =>
      show win0_1.index t 1 * 768 + 1 * (j 1).val = win0_2.index t 1 * 768 + 1 * (j 1).val
      rw [e1 1, e2 1]

/-- An index of the result is in point `t`'s block. -/
theorem mem_blk (t : Fin cfg0.N) (i : S16384x768.Idx) :
    i ∈ ((cfg0.win 2).blk t).view.set ↔ 1024 * t.val ≤ (i 0).val ∧ (i 0).val < 1024 * t.val + 1024 := by
  show i ∈ ((View.whole main_v0).slice (win0_2.rect t)).set ↔ _
  rw [View.set_slice_whole, Rect.mem_set_unit]
  have e2 := congrFun (index2 t)
  have h1 : (i 1).val < 768 := (i 1).isLt
  constructor
  · intro h
    have : win0_2.index t 0 * 1024 ≤ (i 0).val ∧ (i 0).val < win0_2.index t 0 * 1024 + 1024 := h 0
    rw [e2 0] at this
    have : t.val * 1024 ≤ (i 0).val ∧ (i 0).val < t.val * 1024 + 1024 := this
    omega
  · intro h a
    match a with
    | 0 =>
      show win0_2.index t 0 * 1024 ≤ (i 0).val ∧ (i 0).val < win0_2.index t 0 * 1024 + 1024
      rw [e2 0]
      show t.val * 1024 ≤ (i 0).val ∧ (i 0).val < t.val * 1024 + 1024
      omega
    | 1 =>
      show win0_2.index t 1 * 768 ≤ (i 1).val ∧ (i 1).val < win0_2.index t 1 * 768 + 768
      rw [e2 1]
      show 0 * 768 ≤ (i 1).val ∧ (i 1).val < 0 * 768 + 768
      omega

/-- So the call's result ends as the updated queue. -/
theorem lag_final (d : Dev nD) : (dat m d).arrAt 2 cfg0.N = lagOut m d :=
  (dat m d).arrAt_eq_of_cover 2 (lagOut m d) (fun t _ => flushed_eq m d t) fun i => by
    have hi : (i 0).val < 16384 := (i 0).isLt
    refine ⟨⟨(i 0).val / 1024, by show _ < grid0.N; rw [N_0]; omega⟩, flush0_2 _, (mem_blk _ i).mpr ?_⟩
    dsimp only
    omega

/-! ## The call as a step of @main -/

abbrev adm : (p : Fin 1) → (pcfgs (F := F) p).Adm := fun p => (cfgs p).toPCfg_adm

/-- The proof data of @main's one pipeline. -/
abbrev pdats : (p : Fin 1) → (d : Dev nD) → Dat τ (Elt F) (HIx 1) ℕ UU ℕ (Pipeline.pin (pcfgs (F := F)) adm p) d
  | 0 => fun d => dat m d

/-- The core's debts before the SparseCore call. -/
def owing (d : Dev nD) : sProp 𝕄 := iprop(∃ W, ⌜(K (F := F)).WBelow (SparseCore.T d) W 0⌝ ∗ owes (SparseCore.T d) ((K (F := F)).Otc d 0) W)

set_option backward.isDefEq.respectTransparency.types false in
/-- The call, entered from its three arrays as launched and left with the result at the updated queue. -/
def seg : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation m d).loose
  hwaits d := Pipeline.cellsWaits_of_cut _ _ _ _ d 0 ((K (F := F)).Otc d 0) (fun _ => rfl) (fun _ _ => Finset.mem_univ _) (fun _ _ => le_rfl)
    fun g i h => ⟨Finset.mem_univ _, Nat.lt_of_lt_of_le (Nat.succ_pos _) (SparseCore.Cfg.lev_of_Otc_pos h)⟩
  pre d := iprop(((lagLoc d ↦{fullShare} m (lagLoc d)) ∗ (lagqLoc d ↦{fullShare} m (lagqLoc d)) ∗ (lagoLoc d ↦{fullShare} m (lagoLoc d))) ∗ owing (F := F) d)
  post d := iprop(((lagLoc d ↦{fullShare} m (lagLoc d)) ∗ (lagqLoc d ↦{fullShare} m (lagqLoc d)) ∗ (lagoLoc d ↦{fullShare} lagOut m d)) ∗ owing (F := F) d)
  X _ := BI.emp
  Y _ := BI.emp
  Z _ := BI.emp
  hentry d := by
    rw [Pipeline.ownSems0_none, Pipeline.prefHeld_of_none _ rfl,
      Pipeline.arrays_eq (Pipeline.pin (pcfgs (F := F)) adm) (pdats m) 0 d launch0.arr_whole ((dat m d).share_full fun _ => rfl), bigSep_W0]
    unfold owing
    iintro ⟨⟨Ha, ⟨%W, %hW, HO⟩⟩, -, -⟩
    imodintro
    isplitl [Ha]; · iexact Ha
    isplitr; · iempintro
    isplitl [HO]
    · unfold Pipeline.Dat.owesAt Pipeline.owesWithin
      iexists W; isplitr; · (ipureintro; exact fun p hp => Or.inl (hW p hp))
      iexact HO
    isplitr <;> iempintro
  hin d := by
    rw [scopedRest0_eq]
    iintro -; iempintro
  hout d := by
    rw [Pipeline.ownSems0_none, scopedRest0_eq]
    iintro -
    isplitr; · iempintro
    isplitr <;> iempintro
  hexit d := by
    rw [Pipeline.arrays_eq (Pipeline.pin (pcfgs (F := F)) adm) (pdats m) 0 d launch0.arr_whole ((dat m d).share_full fun _ => rfl), bigSep_W0]
    have a0 : (dat m d).arrAt 0 cfg0.N = m (lagLoc d) := (dat m d).arrAt_in 0 rfl _
    have a1 : (dat m d).arrAt 1 cfg0.N = m (lagqLoc d) := (dat m d).arrAt_in 1 rfl _
    show iprop(((lagLoc d ↦{fullShare} (dat m d).arrAt 0 cfg0.N) ∗ (lagqLoc d ↦{fullShare} (dat m d).arrAt 1 cfg0.N) ∗ (lagoLoc d ↦{fullShare} (dat m d).arrAt 2 cfg0.N))
      ∗ _) ⊢ _
    rw [a0, a1, lag_final]
    iintro ⟨Ha, HO, -, -⟩
    imodintro
    isplitl [Ha]; · iexact Ha
    unfold owing Pipeline.Dat.owesAt Pipeline.owesWithin
    icases HO with ⟨%W, %hW, HO⟩
    iexists W; isplitr
    · ipureintro
      intro p hp
      rcases hW hp with h | ⟨w, s, h⟩
      · exact h
      · rw [h]; exact le_rfl
    iexact HO

end Cert.Proof.Queue

end
-- ==== Proof.Main.lean ====
/-
@main on the TensorCore: the TensorCore call, then the SparseCore call; and the whole program's run, from the launch
theorem.
-/
module

public import proofs.«01_k».proof.Proof.Region

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay ctx_levAts)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit cells launchToks)

variable {F : FTy → Type} [FloatOps F]

local notation "𝕄" => MT nD τ sig (HIx 1) (Elt F) ℕ UU ℕ

/-! ## The launch element -/

/-- The pipeline's configuration as @main runs it. -/
abbrev pinned := Pipeline.pin (pcfgs (F := F)) adm

theorem pinned_inj : Function.Injective (Pipeline.cellOf (nD := nD) (τ := τ) (pinned (F := F))) := cellOf_inj

/-- The handshakes' rounds and the pipeline's, at the start. -/
def u₀ : UU := (initOf (K (F := F)).hsCells (K (F := F)).hsToks,
  (initOf (cells (pinned (F := F)) pinned_inj) (launchToks (pinned (F := F)) pinned_inj), 1))

/-- A device's part of the pipeline's: its cells and their tokens. -/
def ghost (d : Dev nD) : sProp 𝕄 := iprop(cellsGhost (pinned (F := F)) EP 0 d ∗ toksInit (pinned (F := F)) EP 0 d)

variable (m : (ℓ : Loc nD τ sig) → Buf (Elt F) ℓ) (ρ : Dev nD → PrngReg)

/-- The launch element deals the handshakes their rounds and each device its pipeline's. -/
theorem hu₀ : (ownU (u₀ (F := F)) : sProp 𝕄)
    ⊢ |={Set.univ}=> iprop(BI.own (EH (initOf (K (F := F)).hsCells (K (F := F)).hsToks)) ∗ (bigSep Finset.univ (ghost (F := F)))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_univ_of_subsingleton (0 : Fin 1)).trans (bigSep_emp_const _)
  have hg : (bigSep Finset.univ (ghost (F := F)) : sProp 𝕄)
      = iprop((bigSep Finset.univ fun d : Dev nD => bigSep Finset.univ fun p : Fin 1 => cellsGhost (pinned (F := F)) EP p d)
        ∗ bigSep Finset.univ fun d : Dev nD => bigSep Finset.univ fun p : Fin 1 => toksInit (pinned (F := F)) EP p d) := by
    unfold ghost
    rw [bigSep_sep']
    congr 1
    · exact bigSep_congr fun d _ => (bigSep_univ_of_subsingleton (Φ := fun p : Fin 1 => cellsGhost (pinned (F := F)) EP p d) (0 : Fin 1)).symm
    · exact bigSep_congr fun d _ => (bigSep_univ_of_subsingleton (Φ := fun p : Fin 1 => toksInit (pinned (F := F)) EP p d) (0 : Fin 1)).symm
  rw [hx, hg]
  unfold u₀
  iintro Hu
  ihave H := (ownU_pair (initOf (K (F := F)).hsCells (K (F := F)).hsToks) _) $$ Hu
  icases H with ⟨HH, HR⟩
  ihave H := (own_pair_emb embR (initOf (cells (pinned (F := F)) pinned_inj) (launchToks (pinned (F := F)) pinned_inj)) (1 : Counters)) $$ HR
  icases H with ⟨HP, -⟩
  imod (Pipeline.fund_ghost (pinned (F := F)) EP pinned_inj) $$ HP with HP
  imodintro
  isplitl [HH]; · iexact HH
  isplitl [HP]; · iexact HP
  iempintro

/-! ## The arrays -/

/-- The TensorCore's arrays are the four arguments and the two results. -/
theorem unscopedBufs_eq (d : Dev nD) (W : (b : Ref sig .tc) → Buf (Elt F) ((d.tc : Thread nD τ).loc b)) :
    (unscopedBufs d W : sProp 𝕄) = iprop((visLoc d ↦{fullShare} W main_arg0) ∗ (lagLoc d ↦{fullShare} W main_arg1) ∗ (visqLoc d ↦{fullShare} W main_arg2)
      ∗ (lagqLoc d ↦{fullShare} W main_arg3) ∗ (lagoLoc d ↦{fullShare} W main_v0) ∗ visoLoc d ↦{fullShare} W main_v1) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The two cores' shares, with the half of the queue that neither is handed, are the call's three arrays. -/
theorem shares_eq (f : (d : Dev nD) → Buf (Elt F) (visoLoc d)) (d : Dev nD) :
    iprop((visLoc d ↦{fullShare} m (visLoc d)) ∗ (visqLoc d ↦{fullShare} m (visqLoc d)) ∗ visoLoc d ↦{fullShare} f d)
      ⊣⊢ iprop((bigSep Finset.univ fun b : Fin 16 => visqLoc d ↦[halfSet 0 b]{fullShare} m (visqLoc d))
        ∗ bigSep Finset.univ fun c : Fin ((K (F := F)).nCore 0) => share m f d c.val) := by
  rw [show (bigSep Finset.univ fun c : Fin ((K (F := F)).nCore 0) => share m f d c.val) = iprop(share m f d 0 ∗ share m f d 1) from by
    show (bigSep (Finset.univ : Finset (Fin 2)) fun c => share m f d c.val) = _
    rw [show (Finset.univ : Finset (Fin 2)) = {0, 1} by decide, SparseCore.bigSep_insert' (by decide), bigSep_singleton]; rfl]
  unfold share
  rw [if_pos rfl, if_neg (by decide), vis_chunks, visq_chunks, viso_chunks]
  constructor
  · iintro ⟨Hv, ⟨Hq0, Hq1⟩, Ho0, Ho1⟩
    isplitl [Hq0]; · iexact Hq0
    isplitl [Hv Ho0]
    · isplitl [Hv]; · iexact Hv
      iexact Ho0
    · isplitl [Hq1]; · iexact Hq1
      iexact Ho1
  · iintro ⟨Hq0, ⟨Hv, Ho0⟩, Hq1, Ho1⟩
    isplitl [Hv]; · iexact Hv
    isplitl [Hq0 Hq1]
    · isplitl [Hq0]; · iexact Hq0
      iexact Hq1
    · isplitl [Ho0]; · iexact Ho0
      iexact Ho1

/-- What @main leaves the claims: the arguments as launched, and the two results updated. -/
abbrev FIN (d : Dev nD) : sProp 𝕄 :=
  iprop((visLoc d ↦{fullShare} m (visLoc d)) ∗ (lagLoc d ↦{fullShare} m (lagLoc d)) ∗ (visqLoc d ↦{fullShare} m (visqLoc d))
    ∗ (lagqLoc d ↦{fullShare} m (lagqLoc d)) ∗ (lagoLoc d ↦{fullShare} lagOut m d) ∗ visoLoc d ↦{fullShare} visOut m d)

/-! ## @main on the TensorCore -/

/-- The TensorCore's state before the SparseCore call is its debts beside its place in the handshakes' rounds. -/
theorem tcSt_zero (d : Dev nD) : ∃ R : sProp 𝕄, (K (F := F)).tcSt EH d 0 = iprop(owing (F := F) d ∗ R) := ⟨_, rfl⟩

/-- The TensorCore call's step of @main starts from the lag arrays as launched and ends with its result updated. -/
theorem seg_pre (d : Dev nD) : (seg m).pre d
    = iprop(((lagLoc d ↦{fullShare} m (lagLoc d)) ∗ (lagqLoc d ↦{fullShare} m (lagqLoc d)) ∗ (lagoLoc d ↦{fullShare} m (lagoLoc d))) ∗ owing (F := F) d) := rfl
theorem seg_post (d : Dev nD) : (seg m).post d
    = iprop(((lagLoc d ↦{fullShare} m (lagLoc d)) ∗ (lagqLoc d ↦{fullShare} m (lagqLoc d)) ∗ (lagoLoc d ↦{fullShare} lagOut m d)) ∗ owing (F := F) d) := rfl

section Main

variable [∀ e, Nonempty (Elt F e)]

/-- @main on device `d`'s TensorCore: the TensorCore call on the lag arrays, then the SparseCore call on the vis arrays. -/
theorem hmain (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_zero (F := F) d
  unfold SparseCore.Cfg.tcRes SparseCore.Cfg.tcEnd ghost
  rw [unscopedBufs_eq, hR]
  simp only [main, wp_bind, wp_pure]
  iintro ⟨#Hctx, Hst, ⟨Hb, ⟨Hv, Hl, Hvq, Hlq, Hlo, Hvo⟩, Hts, -⟩, Hcg, Htk⟩
  ihave Hlev := (ctx_levAts κ) $$ Hctx
  -- the TensorCore call, entered with the core's debts
  icases Hst with ⟨HO, Hst⟩
  iapply ((K (F := F)).wp_liftProg (D (F := F)) 𝒱 (SparseCore.T d) Set.univ none (.op (.customCall (Pipeline.entry 0) ()) .ret) _)
  iapply ((Pipeline.RegionSeg.wp (pcfgs (F := F)) adm (pdats m) none pinned_inj EP defs₀ 𝒱₀ (K (F := F)).L (K (F := F)).lev (seg m) d none
    (fun _ h => nomatch h) .ret _)) $$ [Hb HO Hl Hlq Hlo Hlev Hcg Htk Hst Hv Hvq Hvo Hts]
  isplitl [Hst Hv Hvq Hvo Hts]
  · iintro ⟨Hb, Hpost⟩
    ihave Hpost := (Entails.of_eq (seg_post m d)) $$ Hpost
    icases Hpost with ⟨⟨Hl, Hlq, Hlo⟩, HO⟩
    rw [wp_ret]; imodintro
    ihave Hv := (shares_eq m (fun d => m (visoLoc d)) d).1 $$ [Hv Hvq Hvo]
    · isplitl [Hv]; · iexact Hv
      isplitl [Hvq]; · iexact Hvq
      iexact Hvo
    icases Hv with ⟨Hq0, Hsh⟩
    -- the SparseCore call, to the two cores and back
    iapply ((K (F := F)).wp_run (D (F := F)) 𝒱 (EH := EH) (P := P m) κ d 0) $$ [Hst HO Hsh Hq0 Hb Hl Hlq Hlo Hts]
    isplitr; · iexact Hctx
    isplitl [Hst HO]
    · iapply (Entails.of_eq hR.symm)
      isplitl [HO]; · iexact HO
      iexact Hst
    isplitl [Hsh]; · iexact Hsh
    iintro ⟨Hst, Hsh⟩
    ihave Hv := (shares_eq m (visOut m) d).2 $$ [Hq0 Hsh]
    · isplitl [Hq0]; · iexact Hq0
      iexact Hsh
    icases Hv with ⟨Hv, Hvq, Hvo⟩
    imodintro
    isplitl [Hst]; · iexact Hst
    isplitr [Hb Hts]
    · isplitl [Hv]; · iexact Hv
      isplitl [Hl]; · iexact Hl
      isplitl [Hvq]; · iexact Hvq
      isplitl [Hlq]; · iexact Hlq
      isplitl [Hlo]; · iexact Hlo
      iexact Hvo
    isplitl [Hb] <;> iassumption
  isplitl [Hb]; · iexact Hb
  isplitl [HO Hl Hlq Hlo]
  · iapply (Entails.of_eq (seg_pre m d).symm)
    isplitl [Hl Hlq Hlo]
    · isplitl [Hl]; · iexact Hl
      isplitl [Hlq]; · iexact Hlq
      iexact Hlo
    · iexact HO
  isplitl [Hlev]; · iexact Hlev
  isplitl [Hcg]; · iexact Hcg
  iexact Htk

/-- What that makes true of device `d`'s arrays at the end. -/
def fq (d : Dev nD) (s' : Phys nD τ sig (Elt F)) : Prop :=
  s'.mem.mem (visLoc d) = m (visLoc d) ∧ s'.mem.mem (lagLoc d) = m (lagLoc d) ∧ s'.mem.mem (visqLoc d) = m (visqLoc d)
    ∧ s'.mem.mem (lagqLoc d) = m (lagqLoc d) ∧ s'.mem.mem (lagoLoc d) = lagOut m d ∧ s'.mem.mem (visoLoc d) = visOut m d

theorem hfin (d : Dev nD) (s' : Phys nD τ sig (Elt F)) : iprop(FIN m d ∗ SI s') ⊢ (⌜fq m d s'⌝ : sProp 𝕄) := by
  have read (ℓ : Loc nD τ sig) (f : Buf (Elt F) ℓ) : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  have both {A B : sProp 𝕄} {a b : Prop} (hA : iprop(A ∗ SI s') ⊢ (⌜a⌝ : sProp 𝕄)) (hB : iprop(B ∗ SI s') ⊢ (⌜b⌝ : sProp 𝕄)) :
      iprop((A ∗ B) ∗ SI s') ⊢ (⌜a ∧ b⌝ : sProp 𝕄) :=
    fun x hx => ⟨((sep_mono_left sep_elim_left).trans hA) x hx, ((sep_mono_left sep_elim_right).trans hB) x hx⟩
  exact both (read _ _) (both (read _ _) (both (read _ _) (both (read _ _) (both (read _ _) (read _ _)))))

/-! ## The program's run -/

/-- Every device's arrays are as `fq` says, and every semaphore reads zero. -/
def QC : PUnit × MemSt nD τ sig (Elt F) → Prop := fun r =>
  (∀ d : Dev nD, r.2.mem (visLoc d) = m (visLoc d) ∧ r.2.mem (lagLoc d) = m (lagLoc d) ∧ r.2.mem (visqLoc d) = m (visqLoc d)
    ∧ r.2.mem (lagqLoc d) = m (lagqLoc d) ∧ r.2.mem (lagoLoc d) = lagOut m d ∧ r.2.mem (visoLoc d) = visOut m d) ∧ r.2.sem = fun _ => 0

/-- The program runs from any memory, to the arguments as they were and the two results at the updated queues. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (ghost (F := F)) (FIN m) (u₀ (F := F)) (sep_elim_left.trans (hu₀ m)) (hmain m ρ) (fq m) (hfin m) (QC m) (fun _ h hz => ⟨h, hz⟩)

end Main

end Cert.Proof.Queue

end
-- ==== Proof.Reference.lean ====
/-
The reference program's two results, read as the updated queues.
-/
module

public import proofs.«01_k».proof.Proof.Scalar
public import proofs.«01_k».proof.Proof.Gen.ReferenceIdeal.Run
public import Idealize.ShloMosaic.Lib.Routing.OpsSet
public import Idealize.ShloMosaic.Lib.WordCmp
public import Idealize.ShloMosaic.Lib.Affine

@[expose] public section

noncomputable section

namespace Cert.Proof.Queue

open Cert.ReferenceIdeal Cert.ReferenceIdeal.Gen

open Idealize.ShloMosaic

/-! ## Where an update of the scatter lands -/

/-- The dimension numbers of the reference's scatter: whole rows, one index word each. -/
abbrev rows : ScatterDims S16384x768 S8192x1 S8192x768 := scatter_S16384x768_S8192x1_S8192x768_1_0_0_1

/-- Where row `r`'s index word, read signed, is `r`, update `k` lands at the index with `k`'s coordinates. -/
theorem lands_row (idx : IVec S8192x1 32) (hidx : ∀ j : S8192x1.Idx, (idx j).toInt = ((j 0).val : Int)) (k : S8192x768.Idx) (i : S16384x768.Idx) :
    rows.resultIdx? k idx = some i ↔ (i 0).val = (k 0).val ∧ (i 1).val = (k 1).val := by
  have s0 : rows.start k idx 0 = ((k 0).val : Int) := by
    unfold ScatterDims.start
    rw [dif_pos (show (0 : Fin 2) ∈ rows.scatterDimsToOperandDims from List.mem_singleton.2 rfl), hidx]
    rfl
  have s1 : rows.start k idx 1 = 0 := by
    unfold ScatterDims.start
    exact dif_neg (show ¬ (1 : Fin 2) ∈ ([0] : List (Fin 2)) by decide)
  have w0 : rows.window k 0 = 0 := by
    unfold ScatterDims.window
    exact dif_neg (show ¬ (0 : Fin 2) ∈ rows.sKept by decide)
  have w1 : rows.window k 1 = (k 1).val := by
    unfold ScatterDims.window
    rw [dif_pos (show (1 : Fin 2) ∈ rows.sKept by decide)]
    rfl
  rw [Routing.resultIdx?_eq_some]
  constructor
  · intro h
    have h0 := h 0
    have h1 := h 1
    rw [s0, w0] at h0
    rw [s1, w1] at h1
    omega
  · intro h a
    match a with
    | 0 => show rows.start k idx 0 + (rows.window k 0 : Int) = _; rw [s0, w0]; omega
    | 1 => show rows.start k idx 1 + (rows.window k 1 : Int) = _; rw [s1, w1]; omega

/-- The scatter at those words is the updated queue. -/
theorem scatter_rows {α : Type} (feat : S8192x768.Idx → α) (queue : S16384x768.Idx → α) (idx : IVec S8192x1 32)
    (hidx : ∀ j : S8192x1.Idx, (idx j).toInt = ((j 0).val : Int)) :
    Host.scatter rows (fun _ b => b) queue idx feat = updated feat queue := by
  funext i
  unfold updated
  split
  · rename_i h
    refine Routing.scatter_set_hit rows queue idx feat i _ (fun k hk => congrArg feat ?_) (low i h) ((lands_row idx hidx _ i).2 ⟨rfl, rfl⟩)
    have := (lands_row idx hidx k i).1 hk
    funext a
    match a with
    | 0 => exact Fin.ext this.1.symm
    | 1 => exact Fin.ext this.2.symm
  · rename_i h
    refine Routing.scatter_set_miss rows queue idx feat i fun k hk => h ?_
    rw [((lands_row idx hidx k i).1 hk).1]
    exact (k 0).isLt

/-! ## The index words -/

/-- A row number as the reference computes it, reduced by the queue's 16384 rows the way a flooring modulus is and then wrapped from below zero, is itself
    (read signed). -/
theorem row_word (r : ℕ) (hr : r < 8192) :
    (let rem := IntOp.remsi .host (BitVec.ofNat 32 r) 16384#32
     let q := Scalar.select (IntOp.andi (IntOp.cmpi .ne (IntOp.cmpi .slt rem 0#32) (IntOp.cmpi .slt 16384#32 0#32)) (IntOp.cmpi .ne rem 0#32))
       (IntOp.addi rem 16384#32) rem
     Scalar.select (IntOp.cmpi .slt q 0#32) (IntOp.addi q 16384#32) q).toInt = (r : Int) := by
  have hn : (BitVec.ofNat 32 r).toNat = r := by rw [BitVec.toNat_ofNat]; omega
  have hrem : IntOp.remsi .host (BitVec.ofNat 32 r) 16384#32 = BitVec.ofNat 32 r := by
    rw [← BitVec.toNat_inj, IntOp.toNat_remsi .host (by omega) 16384 (by omega) (by omega), hn]
    omega
  have hneg : IntOp.cmpi .slt (BitVec.ofNat 32 r) 0#32 = 0#1 := by
    rw [WordCmp.cmpi_slt_zero, hn, decide_eq_false (by omega)]; rfl
  have hand (x : BitVec 1) : IntOp.andi (IntOp.cmpi .ne (0#1) (IntOp.cmpi .slt 16384#32 0#32)) x = 0#1 := by
    revert x; decide
  dsimp only
  rw [hrem, hneg, hand, WordCmp.select_zero, hneg, WordCmp.select_zero, BitVec.toInt_eq_toNat_of_lt (by omega), hn]

variable {F : FTy → Type} [FloatOps F]
variable (m : (ℓ : Loc nD τ sig) → Buf (Elt F) ℓ)

/-- The reference's first result is the updated vis queue, -/
theorem res_vis (c : Dev nD) : Value.res_main_v8 m c
    = updated (m ((c.tc : Thread nD τ).loc main_arg0)) (m ((c.tc : Thread nD τ).loc main_arg2)) :=
  scatter_rows _ _ _ fun j => row_word (j 0).val (j 0).isLt
/-- and its second the updated lag queue. -/
theorem res_lag (c : Dev nD) : Value.res_main_v15 m c
    = updated (m ((c.tc : Thread nD τ).loc main_arg1)) (m ((c.tc : Thread nD τ).loc main_arg3)) :=
  scatter_rows _ _ _ fun j => row_word (j 0).val (j 0).isLt

end Cert.Proof.Queue

end
-- ==== Proof.Claims.lean ====
/-
The claims: the three programs' frames, and the equality of the kernel's results with the reference's.
-/
module

public import proofs.«01_k».proof.Proof.Main
public import proofs.«01_k».proof.Proof.Reference
public import proofs.«01_k».proof.Proof.Gen.Kernel
public import Idealize.ShloMosaic.Lib.Quiescent

@[expose] public section

noncomputable section

namespace Cert.Proof.Queue

open Idealize.ShloMosaic Idealize.SL.Sem

section Text

variable {F : FTy → Type} [FloatOps F]

/-- The kernel and the idealized kernel are one text: their tables of bodies agree, processor by processor and label by label, -/
theorem bodies_eq : Cert.Kernel.defs₀ (F := F) = Cert.KernelIdeal.defs₀ (F := F) := by
  funext p ℓ a
  match p, ℓ, a with
  | .tc, 0, _ => rfl
  | .tc, 1, _ => rfl
  | .scScalar c, 0, _ => rfl
  | .scScalar c, 1, _ => rfl
  | .scVector c i, 0, _ => rfl
  | .scVector c i, 1, _ => rfl

/-- and so do the tables with the calls' own labels in them. -/
theorem defs_eq : Cert.Kernel.defs (F := F) = Cert.KernelIdeal.defs (F := F) :=
  congrArg (fun D => Cert.KernelIdeal.sc.defs (Pipeline.defs Cert.KernelIdeal.pcfgs D)) bodies_eq

end Text

/-- The kernel's run, at the floats as words. -/
theorem frame_kernel : Cert.quiescent_Kernel := fun m ρ _ => by
  rw [defs_eq]
  exact (θ_run Cert.KernelIdeal.defs _ _).mono
    (fun _ h => ⟨fun d => ⟨(h.1 d).1, (h.1 d).2.1, (h.1 d).2.2.1, (h.1 d).2.2.2.1⟩, h.2⟩) (run_main (F := Bits) m ρ)

/-- The idealized kernel's run. -/
theorem frame_ideal : Cert.quiescent_KernelIdeal := fun m ρ _ =>
  (θ_run Cert.KernelIdeal.defs _ _).mono
    (fun _ h => ⟨fun d => ⟨(h.1 d).1, (h.1 d).2.1, (h.1 d).2.2.1, (h.1 d).2.2.2.1⟩, h.2⟩) (run_main (F := Ideal) m ρ)

/-- The reference's run; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From arguments that agree, the kernel's two results and the reference's are both the updated queues. -/
theorem results : Cert.algebraic_KernelIdeal_ReferenceIdeal := fun m ρ m' ρ' _ hm =>
  ⟨visOut m, lagOut m,
    (θ_run Cert.KernelIdeal.defs _ _).mono
      (fun _ h d => ⟨(h.1 d).2.2.2.2.2, (h.1 d).2.2.2.2.1, (h.1 d).1, (h.1 d).2.1, (h.1 d).2.2.1, (h.1 d).2.2.2.1⟩) (run_main (F := Ideal) m ρ),
    (θ_run Cert.ReferenceIdeal.defs _ _).mono
      (fun _ h c => ⟨(h c).1.trans ((res_vis m' c).trans (congrArg₂ updated (hm c).1 (hm c).2.2.1)),
        (h c).2.1.trans ((res_lag m' c).trans (congrArg₂ updated (hm c).2.1 (hm c).2.2.2)), (h c).2.2⟩)
      (Cert.ReferenceIdeal.Value.run (F := Ideal) m' ρ')⟩

end Cert.Proof.Queue

end
-- ==== Proof.lean ====
module

public import proofs.«01_k».proof.Proof.Gen.ReferenceIdeal.Run
public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Queue.frame_kernel, Queue.frame_ideal, Queue.frame_reference, trivial, Queue.results⟩

end Cert.Proof

end
